-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_partials_small_KernelIdeal [hPre_partials_small_KernelIdeal : Cert.Pre_partials_small_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_partials_small_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_partials_small_ReferenceIdeal [hPre_partials_small_ReferenceIdeal : Cert.Pre_partials_small_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_partials_small_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_partials_small_KernelIdeal [hKernelIdeal : Cert.KernelIdeal.Facts] [hPre_partials_small_KernelIdeal : Cert.Pre_partials_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_partials_small_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_partials_small_ReferenceIdeal [hReferenceIdeal : Cert.ReferenceIdeal.Facts] [hPre_partials_small_ReferenceIdeal : Cert.Pre_partials_small_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_partials_small_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1))
      ∧ r.2.sem = fun _ => 0)

def preserves_Kernel_KernelIdeal : Prop :=
  True

def algebraic_KernelIdeal_ReferenceIdeal_pre_partials_small_KernelIdeal [hKernelIdeal : Cert.KernelIdeal.Facts] [hReferenceIdeal : Cert.ReferenceIdeal.Facts] [hPre_partials_small_KernelIdeal : Cert.Pre_partials_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_partials_small_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.UnclippedIdeal.nD).tc : Thread Cert.UnclippedIdeal.nD Cert.UnclippedIdeal.τ).loc Cert.UnclippedIdeal.main_arg1))) →
    ∃ (v0 : Buf (Elt Ideal) (((0 : Dev Cert.UnclippedIdeal.nD).tc : Thread Cert.UnclippedIdeal.nD Cert.UnclippedIdeal.τ).loc Cert.UnclippedIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v5) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1))

def Claim : Prop :=
  ∃ (hKernel : Cert.Kernel.Facts) (hKernelIdeal : Cert.KernelIdeal.Facts) (hReferenceIdeal : Cert.ReferenceIdeal.Facts) (hUnclippedIdeal : Cert.UnclippedIdeal.Facts) (hPre_partials_small_KernelIdeal : Cert.Pre_partials_small_KernelIdeal.Facts) (hPre_partials_small_ReferenceIdeal : Cert.Pre_partials_small_ReferenceIdeal.Facts),
    quiescent_Kernel (hKernel := hKernel)
    ∧ quiescent_KernelIdeal (hKernelIdeal := hKernelIdeal)
    ∧ quiescent_KernelIdeal_pre_partials_small_KernelIdeal (hKernelIdeal := hKernelIdeal) (hPre_partials_small_KernelIdeal := hPre_partials_small_KernelIdeal)
    ∧ quiescent_ReferenceIdeal (hReferenceIdeal := hReferenceIdeal)
    ∧ quiescent_ReferenceIdeal_pre_partials_small_ReferenceIdeal (hReferenceIdeal := hReferenceIdeal) (hPre_partials_small_ReferenceIdeal := hPre_partials_small_ReferenceIdeal)
    ∧ quiescent_UnclippedIdeal (hUnclippedIdeal := hUnclippedIdeal)
    ∧ preserves_Kernel_KernelIdeal
    ∧ algebraic_KernelIdeal_ReferenceIdeal_pre_partials_small_KernelIdeal (hKernelIdeal := hKernelIdeal) (hReferenceIdeal := hReferenceIdeal) (hPre_partials_small_KernelIdeal := hPre_partials_small_KernelIdeal)
    ∧ algebraic_KernelIdeal_UnclippedIdeal (hKernelIdeal := hKernelIdeal) (hUnclippedIdeal := hUnclippedIdeal)
-- ==== Pre_partials_small_KernelIdeal.lean ====
abbrev S4096x1024 : Shape := ⟨2, ![4096, 1024]⟩
abbrev S1024x8192 : Shape := ⟨2, ![1024, 8192]⟩
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  dot_S4096x1024_S1024x8192_S4096x8192_1_0_0_1_n_n_wf : DotDims.WF S4096x1024 S1024x8192 S4096x8192 [1] [0] [0] [1] [] []

variable [Facts]

def dot_S4096x1024_S1024x8192_S4096x8192_1_0_0_1_n_n : DotDims S4096x1024 S1024x8192 S4096x8192 where
  lhsContracting := [1]
  rhsContracting := [0]
  lhsNonContracting := [0]
  rhsNonContracting := [1]
  lhsBatch := []
  rhsBatch := []
  wf := dot_S4096x1024_S1024x8192_S4096x8192_1_0_0_1_n_n_wf
def fn {F : FTy → Type} [FloatOps F] (main_arg0 : FVec F S4096x1024 .f32) (main_arg1 : FVec F S1024x8192 .f32) : IVec S_ 1 :=
  let main_v0 : FVec F S4096x8192 .f32 := (fun l r => Host.dotGeneral dot_S4096x1024_S1024x8192_S4096x8192_1_0_0_1_n_n none l r) main_arg0 main_arg1
  let main_v1 : FVec F S4096x8192 .f32 := Host.absf main_v0
  let main_cst : FVec F S_ .f32 := constant S_ .f32 0x41700000#32
  let main_v2 : FVec F S4096x8192 .f32 := broadcastInDim S4096x8192 ![] bcast_S_S4096x8192 main_cst
  let main_v3 : IVec S4096x8192 1 := cmpf .ole main_v1 main_v2
  let main_c : IVec S_ 1 := constantI S_ 1 1#1
  let main_v4 : IVec S_ 1 := (fun x v => Host.reduce IntOp.andi x v reducesTo_S4096x8192_S_d0_1 h_S_) main_v3 main_c
  main_v4
-- ==== Pre_partials_small_ReferenceIdeal.lean ====
abbrev S4096x4096 : Shape := ⟨2, ![4096, 4096]⟩
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : FVec F S4096x4096 .f32) (main_arg1 : FVec F S4096x8192 .f32) : IVec S_ 1 :=
  let main_v0 : FVec F S4096x8192 .f32 := (fun l r => Host.dotGeneral dot_S4096x4096_S4096x8192_S4096x8192_1_0_0_1_n_n none l r) main_arg0 main_arg1
  let main_v1 : FVec F S4096x8192 .f32 := Host.absf main_v0
  let main_cst : FVec F S_ .f32 := constant S_ .f32 0x41700000#32
  let main_v2 : FVec F S4096x8192 .f32 := broadcastInDim S4096x8192 ![] bcast_S_S4096x8192 main_cst
  let main_v3 : IVec S4096x8192 1 := cmpf .ole main_v1 main_v2
  let main_c : IVec S_ 1 := constantI S_ 1 1#1
  let main_v4 : IVec S_ 1 := (fun x v => Host.reduce IntOp.andi x v reducesTo_S4096x8192_S_d0_1 h_S_) main_v3 main_c
  main_v4
-- ==== Kernel.lean ====
abbrev S4096x1024 : Shape := ⟨2, ![4096, 1024]⟩
abbrev S1024x8192 : Shape := ⟨2, ![1024, 8192]⟩
abbrev S2x4x1024x1024 : Shape := ⟨4, ![2, 4, 1024, 1024]⟩
abbrev S1024x1024 : Shape := ⟨2, ![1024, 1024]⟩
abbrev S3x1024x1024 : Shape := ⟨3, ![3, 1024, 1024]⟩
abbrev S3 : Shape := ⟨1, ![3]⟩
abbrev S2x4 : Shape := ⟨2, ![2, 4]⟩
abbrev S_ : Shape := ⟨0, ![]⟩
abbrev S1x1024x1024 : Shape := ⟨3, ![1, 1024, 1024]⟩
abbrev S1 : Shape := ⟨1, ![1]⟩
abbrev S1x1 : Shape := ⟨2, ![1, 1]⟩
abbrev S1x1x1024x1024 : Shape := ⟨4, ![1, 1, 1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S1024x8192, .f32⟩
  | .hbm, ⟨3, _⟩ => ⟨S2x4x1024x1024, .f32⟩
  | .hbm, ⟨4, _⟩ => ⟨S2x4x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S3x1024x1024, .f32⟩
  | .local _ .vmem, ⟨4, _⟩ => ⟨S3x1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_11 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v13 : BitVec 32 := Scalar.addi v2 c8_i32
  let c1_i32_10 : BitVec 32 := 1#32
  let v14 : BitVec 32 := Scalar.subi v13 c1_i32_10
  let v15 : BitVec 32 := Scalar.subi v14 c0_i32_11
  let c4_i32_12 : BitVec 32 := 4#32
  let v16 : BitVec 32 := Scalar.remsi v15 c4_i32_12
  let c1024_i32 : BitVec 32 := 1024#32
  let v20 : BitVec 32 := Scalar.muli v16 c1024_i32
  let c0_i32_16 : BitVec 32 := 0#32
  ![v20.toNat, 0]
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_34 : BitVec 32 := 1#32
  let v31 : BitVec 32 := Scalar.muli v7 c1_i32_34
  let v32 : BitVec 32 := Scalar.addi c0_i32_35 v31
  v32.toNat
def k0_off2 (d0 : Dev nD) (c0_i32_14 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v17 : BitVec 32 := Scalar.addi v2 c1_i32_13
  let v18 : BitVec 32 := Scalar.addi v17 c0_i32_14
  let c4_i32_15 : BitVec 32 := 4#32
  let v19 : BitVec 32 := Scalar.remsi v18 c4_i32_15
  let c1024_i32_40 : BitVec 32 := 1024#32
  let v41 : BitVec 32 := Scalar.muli v19 c1024_i32_40
  let c0_i32_41 : BitVec 32 := 0#32
  ![v41.toNat, 0]
def k0_dev4 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_60 : BitVec 32 := 1#32
  let v52 : BitVec 32 := Scalar.muli v5 c1_i32_60
  let v53 : BitVec 32 := Scalar.addi c0_i32_61 v52
  v53.toNat
def k0_dev5 (d0 : Dev nD) : Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_83 : BitVec 32 := 1#32
  let v70 : BitVec 32 := Scalar.muli v7 c1_i32_83
  let v71 : BitVec 32 := Scalar.addi c0_i32_84 v70
  v71.toNat
def k0_dev6 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_106 : BitVec 32 := 1#32
  let v88 : BitVec 32 := Scalar.muli v5 c1_i32_106
  let v89 : BitVec 32 := Scalar.addi c0_i32_107 v88
  v89.toNat
def k0_dev7 (d0 : Dev nD) : Nat :=
  let c0_i32_129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_128 : BitVec 32 := 1#32
  let v106 : BitVec 32 := Scalar.muli v7 c1_i32_128
  let v107 : BitVec 32 := Scalar.addi c0_i32_129 v106
  v107.toNat
def k0_dev8 (d0 : Dev nD) : Nat :=
  let c0_i32_152 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_151 : BitVec 32 := 1#32
  let v124 : BitVec 32 := Scalar.muli v5 c1_i32_151
  let v125 : BitVec 32 := Scalar.addi c0_i32_152 v124
  v125.toNat
def k0_dev9 (d0 : Dev nD) : Nat :=
  let c0_i32_185 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_184 : BitVec 32 := 1#32
  let v148 : BitVec 32 := Scalar.muli v7 c1_i32_184
  let v149 : BitVec 32 := Scalar.addi c0_i32_185 v148
  v149.toNat
def k0_dev10 (d0 : Dev nD) : Nat :=
  let c0_i32_219 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_218 : BitVec 32 := 1#32
  let v172 : BitVec 32 := Scalar.muli v5 c1_i32_218
  let v173 : BitVec 32 := Scalar.addi c0_i32_219 v172
  v173.toNat
def k0_dev11 (d0 : Dev nD) : Nat :=
  let c0_i32_286 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_285 : BitVec 32 := 1#32
  let v220 : BitVec 32 := Scalar.muli v7 c1_i32_285
  let v221 : BitVec 32 := Scalar.addi c0_i32_286 v220
  v221.toNat
def k0_dev12 (d0 : Dev nD) : Nat :=
  let c0_i32_346 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_345 : BitVec 32 := 1#32
  let v261 : BitVec 32 := Scalar.muli v5 c1_i32_345
  let v262 : BitVec 32 := Scalar.addi c0_i32_346 v261
  v262.toNat
def k0_dev13 (d0 : Dev nD) : Nat :=
  let c0_i32_403 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_402 : BitVec 32 := 1#32
  let v299 : BitVec 32 := Scalar.muli v7 c1_i32_402
  let v300 : BitVec 32 := Scalar.addi c0_i32_403 v299
  v300.toNat
def k0_dev14 (d0 : Dev nD) : Nat :=
  let c0_i32_460 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_459 : BitVec 32 := 1#32
  let v337 : BitVec 32 := Scalar.muli v5 c1_i32_459
  let v338 : BitVec 32 := Scalar.addi c0_i32_460 v337
  v338.toNat
def k0_dev15 (d0 : Dev nD) : Nat :=
  let c0_i32_517 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_516 : BitVec 32 := 1#32
  let v375 : BitVec 32 := Scalar.muli v7 c1_i32_516
  let v376 : BitVec 32 := Scalar.addi c0_i32_517 v375
  v376.toNat
def k0_dev16 (d0 : Dev nD) : Nat :=
  let c0_i32_574 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_573 : BitVec 32 := 1#32
  let v413 : BitVec 32 := Scalar.muli v5 c1_i32_573
  let v414 : BitVec 32 := Scalar.addi c0_i32_574 v413
  v414.toNat
def k0_dev17 (d0 : Dev nD) : Nat :=
  let c0_i32_631 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_630 : BitVec 32 := 1#32
  let v451 : BitVec 32 := Scalar.muli v7 c1_i32_630
  let v452 : BitVec 32 := Scalar.addi c0_i32_631 v451
  v452.toNat
def k0_dev18 (d0 : Dev nD) : Nat :=
  let c0_i32_688 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_687 : BitVec 32 := 1#32
  let v489 : BitVec 32 := Scalar.muli v5 c1_i32_687
  let v490 : BitVec 32 := Scalar.addi c0_i32_688 v489
  v490.toNat
def k0_dev19 (d0 : Dev nD) : Nat :=
  let c0_i32_702 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_701 : BitVec 32 := 1#32
  let v506 : BitVec 32 := Scalar.muli v5 c1_i32_701
  let v507 : BitVec 32 := Scalar.addi c0_i32_702 v506
  v507.toNat
def k0_dev20 (d0 : Dev nD) : Nat :=
  let c0_i32_705 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_704 : BitVec 32 := 1#32
  let v508 : BitVec 32 := Scalar.muli v7 c1_i32_704
  let v509 : BitVec 32 := Scalar.addi c0_i32_705 v508
  v509.toNat
def k0_dev21 (d0 : Dev nD) : Nat :=
  let c0_i32_763 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_762 : BitVec 32 := 1#32
  let v541 : BitVec 32 := Scalar.muli v7 c1_i32_762
  let v542 : BitVec 32 := Scalar.addi c0_i32_763 v541
  v542.toNat
def k0_dev22 (d0 : Dev nD) : Nat :=
  let c0_i32_823 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_822 : BitVec 32 := 1#32
  let v582 : BitVec 32 := Scalar.muli v5 c1_i32_822
  let v583 : BitVec 32 := Scalar.addi c0_i32_823 v582
  v583.toNat
def k0_dev23 (d0 : Dev nD) : Nat :=
  let c0_i32_880 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_879 : BitVec 32 := 1#32
  let v620 : BitVec 32 := Scalar.muli v7 c1_i32_879
  let v621 : BitVec 32 := Scalar.addi c0_i32_880 v620
  v621.toNat
def k0_dev24 (d0 : Dev nD) : Nat :=
  let c0_i32_937 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_936 : BitVec 32 := 1#32
  let v658 : BitVec 32 := Scalar.muli v5 c1_i32_936
  let v659 : BitVec 32 := Scalar.addi c0_i32_937 v658
  v659.toNat
def k0_dev25 (d0 : Dev nD) : Nat :=
  let c0_i32_994 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_993 : BitVec 32 := 1#32
  let v696 : BitVec 32 := Scalar.muli v7 c1_i32_993
  let v697 : BitVec 32 := Scalar.addi c0_i32_994 v696
  v697.toNat
def k0_dev26 (d0 : Dev nD) : Nat :=
  let c0_i32_1051 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1050 : BitVec 32 := 1#32
  let v734 : BitVec 32 := Scalar.muli v5 c1_i32_1050
  let v735 : BitVec 32 := Scalar.addi c0_i32_1051 v734
  v735.toNat
def k0_dev27 (d0 : Dev nD) : Nat :=
  let c0_i32_1108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1107 : BitVec 32 := 1#32
  let v772 : BitVec 32 := Scalar.muli v7 c1_i32_1107
  let v773 : BitVec 32 := Scalar.addi c0_i32_1108 v772
  v773.toNat
def k0_dev28 (d0 : Dev nD) : Nat :=
  let c0_i32_1165 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1164 : BitVec 32 := 1#32
  let v810 : BitVec 32 := Scalar.muli v5 c1_i32_1164
  let v811 : BitVec 32 := Scalar.addi c0_i32_1165 v810
  v811.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_1170 : BitVec 32 := 1024#32
  let v820 : BitVec 32 := Scalar.muli v2 c1024_i32_1170
  let c0_i32_1171 : BitVec 32 := 0#32
  ![v820.toNat, 0]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== UnclippedIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Program.lean ====
/-
# The body as steps

The printed body of the kernel is one straight line of some four hundred operations. Here the memory references it
uses are named — by the ring (`true` for the clockwise one, `false` for the counter-clockwise one), the tile and the
slot —, its operations are gathered into steps (`sendTile`, `ownTile`, `lastTile`), and `body_eq` says that the
printed body is those steps in order.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.RA Idealize.SL.BI
open Idealize.SL.Sem

variable {F : FTy → Type} [FloatOps F]

/-! ## The buffers -/

abbrev xM : Memref sig .tc .hbm S4096x1024 .f32 := Memref.whole main_arg0
abbrev wM : Memref sig .tc .hbm S1024x8192 .f32 := Memref.whole main_arg1
abbrev oM : Memref sig .tc .hbm S1024x8192 .f32 := Memref.whole main_v1_0
abbrev wT : Memref sig .tc .vmem S1024x1024 .f32 := Memref.whole cc0_scratch2
abbrev vB : Memref sig .tc .vmem S1024x1024 .f32 := Memref.whole cc0_scratch5
abbrev vC : Memref sig .tc .vmem S1024x1024 .f32 := Memref.whole cc0_scratch6

/-- The receive buffer of a ring: two slots of four tiles. -/
abbrev rB (d : Bool) : Memref sig .tc .hbm S2x4x1024x1024 .f32 := cond d (Memref.whole main_v1_1) (Memref.whole main_v1_2)
/-- The row block of `x` a ring is multiplying. -/
abbrev xT (d : Bool) : Memref sig .tc .vmem S1024x1024 .f32 := cond d (Memref.whole cc0_scratch0) (Memref.whole cc0_scratch1)
/-- The send buffer of a ring: three tiles. -/
abbrev sB (d : Bool) : Memref sig .tc .vmem S3x1024x1024 .f32 := cond d (Memref.whole cc0_scratch3) (Memref.whole cc0_scratch4)
abbrev sS (d : Bool) : DmaSems sig S3 := cond d cc0_scratch7 cc0_scratch8
abbrev rS (d : Bool) : DmaSems sig S2x4 := cond d cc0_scratch9 cc0_scratch10

/-! ## The tiles and their semaphores -/

theorem wInb (j : Fin 8) : ∀ a, (![0, 1024 * j.val] : Fin 2 → ℕ) a + S1024x1024.size a ≤ S1024x8192.size a := by
  revert j; decide
theorem sInb (k : Fin 3) : ∀ a, (![k.val, 0, 0] : Fin 3 → ℕ) a + S1x1024x1024.size a ≤ S3x1024x1024.size a := by
  revert k; decide
theorem rInb (s : Fin 2) (t : Fin 4) :
    ∀ a, (![s.val, t.val, 0, 0] : Fin 4 → ℕ) a + S1x1x1024x1024.size a ≤ S2x4x1024x1024.size a := by
  revert s t; decide
theorem sSemInb (k : Fin 3) : ∀ a, (![k.val] : Fin 1 → ℕ) a + S1.size a ≤ S3.size a := by revert k; decide
theorem rSemInb (s : Fin 2) (t : Fin 4) : ∀ a, (![s.val, t.val] : Fin 2 → ℕ) a + S1x1.size a ≤ S2x4.size a := by
  revert s t; decide

/-- A block of 1024 rows of `x`, from the offset `off`. -/
abbrev xRows (off : Fin 2 → ℕ) (h : ∀ a, off a + S1024x1024.size a ≤ S4096x1024.size a) :
    Memref sig .tc .hbm S1024x1024 .f32 :=
  xM.slice (Rect.unit (s := S4096x1024) off S1024x1024.size h) (fun _ => rfl)
/-- Column tile `j` of `w`. -/
abbrev wTile (j : Fin 8) : Memref sig .tc .hbm S1024x1024 .f32 :=
  wM.slice (Rect.unit (s := S1024x8192) ![0, 1024 * j.val] S1024x1024.size (wInb j)) (fun _ => rfl)
/-- Column tile `j` of the result. -/
abbrev oTile (j : Fin 8) : Memref sig .tc .hbm S1024x1024 .f32 :=
  oM.slice (Rect.unit (s := S1024x8192) ![0, 1024 * j.val] S1024x1024.size (wInb j)) (fun _ => rfl)
abbrev sRect (k : Fin 3) : Rect S3x1024x1024 := Rect.unit (s := S3x1024x1024) ![k.val, 0, 0] S1x1024x1024.size (sInb k)
/-- Send slot `k` of ring `d`. -/
abbrev sSlot (d : Bool) (k : Fin 3) : Memref sig .tc .vmem S1024x1024 .f32 :=
  ((sB d).slice (sRect k) (fun _ => rfl)).squeeze S1024x1024 squeezes_S1x1024x1024_S1024x1024
/-- Tile `t` of receive slot `s` of ring `d`. -/
abbrev rSlot (d : Bool) (s : Fin 2) (t : Fin 4) : Memref sig .tc .hbm S1024x1024 .f32 :=
  ((rB d).slice (Rect.unit (s := S2x4x1024x1024) ![s.val, t.val, 0, 0] S1x1x1024x1024.size (rInb s t)) (fun _ => rfl)).squeeze
    S1024x1024 squeezes_S1x1x1024x1024_S1024x1024
abbrev sSem (d : Bool) (k : Fin 3) : DmaSem sig :=
  (((sS d).slice (Rect.unit (s := S3) ![k.val] S1.size (sSemInb k))).squeeze S_ squeezes_S1_S_).sem
abbrev rSem (d : Bool) (s : Fin 2) (t : Fin 4) : DmaSem sig :=
  (((rS d).slice (Rect.unit (s := S2x4) ![s.val, t.val] S1x1.size (rSemInb s t))).squeeze S_ squeezes_S1x1_S_).sem
abbrev xD : DmaSem sig := cc0_scratch11.sem
abbrev wD : DmaSem sig := cc0_scratch12.sem
abbrev rD : DmaSem sig := cc0_scratch13.sem
abbrev barS : Sem sig := (SemArray.scalar (sig.barrier 0 rfl) : Sems sig S_).sem

theorem xT_whole (d : Bool) : (xT d).IsWhole := by cases d <;> exact Memref.isWhole_whole _

/-! ## The operations -/

variable (F) in
/-- A program of a device over the values `F`. -/
abbrev KProg (α : Type) : Type 1 := Prog (TpuEff nD τ sig (Elt F) Λ₀ .tc) α

variable (F) in
/-- Start the copy of a block of rows of `x` into the ring's row buffer. -/
def startX (d : Bool) (off : Fin 2 → ℕ) (h : ∀ a, off a + S1024x1024.size a ≤ S4096x1024.size a) : KProg F PUnit :=
  Prog.lift (.enqueueDma (xRows off h) (.here (xT d)) (.dma xD) (View.wordExact_bits rfl) (xT_whole d).wordExact
    ⟨Or.inl rfl, trivial⟩)
variable (F) in
def waitX (d : Bool) (off : Fin 2 → ℕ) (h : ∀ a, off a + S1024x1024.size a ≤ S4096x1024.size a) : KProg F PUnit :=
  Prog.lift (.waitDma2 xD (xRows off h) (xT d) (View.wordExact_bits rfl) (xT_whole d).wordExact)
variable (F) in
/-- Start the copy of a tile of `w`. -/
def startW (j : Fin 8) : KProg F PUnit :=
  Prog.lift (.enqueueDma (wTile j) (.here wT) (.dma wD) (View.wordExact_bits rfl) (Memref.isWhole_whole _).wordExact
    ⟨Or.inl rfl, trivial⟩)
variable (F) in
def waitW (j : Fin 8) : KProg F PUnit :=
  Prog.lift (.waitDma2 wD (wTile j) wT (View.wordExact_bits rfl) (Memref.isWhole_whole _).wordExact)
variable (F) in
/-- Start the copy of a received tile. -/
def startR (d : Bool) (s : Fin 2) (t : Fin 4) : KProg F PUnit :=
  Prog.lift (.enqueueDma (rSlot d s t) (.here vB) (.dma rD) ((View.wordExact_bits rfl).reshape _ _)
    (Memref.isWhole_whole _).wordExact ⟨Or.inl rfl, trivial⟩)
variable (F) in
def waitR (d : Bool) (s : Fin 2) (t : Fin 4) : KProg F PUnit :=
  Prog.lift (.waitDma2 rD (rSlot d s t) vB ((View.wordExact_bits rfl).reshape _ _) (Memref.isWhole_whole _).wordExact)
variable (F) in
/-- Start the copy of a finished tile into the result. -/
def startO (j : Fin 8) : KProg F PUnit :=
  Prog.lift (.enqueueDma vB (.here (oTile j)) (.dma rD) (Memref.isWhole_whole _).wordExact (View.wordExact_bits rfl)
    ⟨Or.inl rfl, trivial⟩)
variable (F) in
def waitO (j : Fin 8) : KProg F PUnit :=
  Prog.lift (.waitDma2 rD vB (oTile j) (Memref.isWhole_whole _).wordExact (View.wordExact_bits rfl))
variable (F) in
/-- Start the copy of a tile of the result back into the core's memory. -/
def startC (j : Fin 8) : KProg F PUnit :=
  Prog.lift (.enqueueDma (oTile j) (.here vC) (.dma wD) (View.wordExact_bits rfl) (Memref.isWhole_whole _).wordExact
    ⟨Or.inl rfl, trivial⟩)
variable (F) in
def waitC (j : Fin 8) : KProg F PUnit :=
  Prog.lift (.waitDma2 wD (oTile j) vC (View.wordExact_bits rfl) (Memref.isWhole_whole _).wordExact)
variable (F) in
/-- Send slot `k` to tile `t` of slot `s` of device `n`. -/
def sendS (d : Bool) (k : Fin 3) (s : Fin 2) (t : Fin 4) (n : Dev nD) : KProg F PUnit :=
  Prog.lift (.enqueueDma (sSlot d k) (.remote (Dev.tc n) (rSlot d s t) (.dma (sSem d k))) (.dma (rSem d s t))
    ((View.wordExact_bits rfl).reshape _ _) ((View.wordExact_bits rfl).reshape _ _) ⟨⟨rfl, Or.inl rfl⟩, trivial⟩)
variable (F) in
/-- Wait until the transfer sent from slot `k` (to tile `t` of slot `s`) has left. -/
def waitSent (d : Bool) (k : Fin 3) (s : Fin 2) (t : Fin 4) : KProg F PUnit :=
  Prog.lift (.waitDma2 (sSem d k) (rSlot d s t) (sSlot d k) ((View.wordExact_bits rfl).reshape _ _)
    ((View.wordExact_bits rfl).reshape _ _))
variable (F) in
/-- Wait until tile `t` of slot `s` has arrived. -/
def waitCame (d : Bool) (k : Fin 3) (s : Fin 2) (t : Fin 4) : KProg F PUnit :=
  Prog.lift (.waitDma2 (rSem d s t) (sSlot d k) (rSlot d s t) ((View.wordExact_bits rfl).reshape _ _)
    ((View.wordExact_bits rfl).reshape _ _))

/-- The whole of a tile buffer, as the loads and stores name it. -/
abbrev full : Rect S1024x1024 := Rect.unit (s := S1024x1024) ![0, 0] S1024x1024.size inb_S1024x1024_S1024x1024_0_0

variable (F) in
def loadT (m : Memref sig .tc .vmem S1024x1024 .f32) : KProg F (Vec F S1024x1024 .f32) :=
  Prog.lift (.load m full.toLoadRect (View.loadsAt_vmem h_S1024x1024))
def storeT (m : Memref sig .tc .vmem S1024x1024 .f32) (v : Vec F S1024x1024 .f32) : KProg F PUnit :=
  Prog.lift (.store m full v Finset.univ (View.stores_vmem_bits_univ h_S1024x1024 rfl) (.inl rfl))
variable (F) in
def loadS (d : Bool) (k : Fin 3) : KProg F (Vec F S1x1024x1024 .f32) :=
  Prog.lift (.load (sB d) (sRect k).toLoadRect (View.loadsAt_vmem h_S1x1024x1024))
def storeS (d : Bool) (k : Fin 3) (v : Vec F S1x1024x1024 .f32) : KProg F PUnit :=
  Prog.lift (.store (sB d) (sRect k) v Finset.univ (View.stores_vmem_bits_univ h_S1x1024x1024 rfl) (.inl rfl))

/-! ## The pure values -/

/-- The product of a block of rows and a tile of columns. -/
def dot (x w : Vec F S1024x1024 .f32) : Vec F S1024x1024 .f32 :=
  matmul dot_S1024x1024_S1024x1024_S1024x1024_1_0_0_1_n_n none x w (constant S1024x1024 .f32 0x00000000#32)
/-- A tile as a one-tile slab of the send buffer. -/
def slab (v : Vec F S1024x1024 .f32) : Vec F S1x1024x1024 .f32 := shapeCast S1x1024x1024 v shapeCasts_S1024x1024_S1x1024x1024
def same (v : Vec F S1024x1024 .f32) : Vec F S1024x1024 .f32 := shapeCast S1024x1024 v shapeCasts_S1024x1024_S1024x1024
/-- `y * sigmoid y`, as the kernel has it. -/
def silu (y : Vec F S1024x1024 .f32) : Vec F S1024x1024 .f32 := mulf y (logistic y)

/-! ## The steps -/

/-- Fill slot `k` with the product alone (the first hop), and send it. -/
def put0 (d : Bool) (k : Fin 3) (s : Fin 2) (t : Fin 4) (n : Dev nD) : KProg F PUnit := do
  let x ← loadT F (xT d)
  let w ← loadT F wT
  let _ ← loadS F d k
  storeS d k (slab (dot x w))
  sendS F d k s t n

/-- Fill slot `k` with the product and what was received (the later hops), and send it. -/
def put1 (d : Bool) (k : Fin 3) (s : Fin 2) (t : Fin 4) (n : Dev nD) : KProg F PUnit := do
  let x ← loadT F (xT d)
  let w ← loadT F wT
  let v ← loadT F vB
  let _ ← loadS F d k
  storeS d k (slab (addf (dot x w) v))
  sendS F d k s t n

/-- The first tile of the first hop. -/
def tileA (d : Bool) (off : Fin 2 → ℕ) (h : ∀ a, off a + S1024x1024.size a ≤ S4096x1024.size a) (j : Fin 8) (k : Fin 3)
    (s : Fin 2) (t : Fin 4) (n : Dev nD) : KProg F PUnit := do
  startX F d off h
  startW F j
  waitX F d off h
  waitW F j
  put0 d k s t n

/-- A tile of the first hop whose send slot is fresh. -/
def tileB (d : Bool) (j : Fin 8) (k : Fin 3) (s : Fin 2) (t : Fin 4) (n : Dev nD) : KProg F PUnit := do
  startW F j
  waitW F j
  put0 d k s t n

/-- A tile of the first hop whose send slot is used again. -/
def tileC (d : Bool) (j : Fin 8) (k : Fin 3) (s' : Fin 2) (t' : Fin 4) (s : Fin 2) (t : Fin 4) (n : Dev nD) :
    KProg F PUnit := do
  startW F j
  waitSent F d k s' t'
  waitW F j
  put0 d k s t n

/-- The first tile of a later hop. -/
def tileD (d : Bool) (off : Fin 2 → ℕ) (h : ∀ a, off a + S1024x1024.size a ≤ S4096x1024.size a) (j : Fin 8) (k : Fin 3)
    (s' : Fin 2) (t' : Fin 4) (k' : Fin 3) (sr : Fin 2) (s : Fin 2) (t : Fin 4) (n : Dev nD) : KProg F PUnit := do
  startX F d off h
  startW F j
  waitSent F d k s' t'
  waitCame F d k' sr t
  startR F d sr t
  waitX F d off h
  waitW F j
  waitR F d sr t
  put1 d k s t n

/-- A further tile of a later hop. -/
def tileE (d : Bool) (j : Fin 8) (k : Fin 3)
    (s' : Fin 2) (t' : Fin 4) (k' : Fin 3) (sr : Fin 2) (s : Fin 2) (t : Fin 4) (n : Dev nD) : KProg F PUnit := do
  startW F j
  waitSent F d k s' t'
  waitCame F d k' sr t
  startR F d sr t
  waitW F j
  waitR F d sr t
  put1 d k s t n

/-- The device's own part of a tile of the result. -/
def ownTile (j : Fin 8) : KProg F PUnit := do
  startW F j
  waitW F j
  let x ← loadT F (xT true)
  let w ← loadT F wT
  let _ ← loadT F vB
  storeT vB (same (dot x w))
  startO F j
  waitO F j

/-- The end of a tile of the result: the own part and what was received last are added, and `silu` applied. -/
def finish (d : Bool) (k' : Fin 3) (t : Fin 4) (j : Fin 8) : KProg F PUnit := do
  waitCame F d k' 0 t
  startC F j
  startR F d 0 t
  waitC F j
  waitR F d 0 t
  let a ← loadT F vC
  let b ← loadT F vB
  let _ ← loadT F vB
  storeT vB (same (silu (addf a b)))
  startO F j
  waitO F j

/-- The end of a tile, its ring's last transfers still leaving. -/
def lastTile (d : Bool) (k : Fin 3) (ts : Fin 4) (k' : Fin 3) (t : Fin 4) (j : Fin 8) : KProg F PUnit := do
  waitSent F d k 0 ts
  finish d k' t j

variable (F) in
/-- The handshake with the two neighbours. -/
def handshake (l r : Dev nD) : KProg F PUnit := do
  semSignalWord l barS 1#32
  semSignalWord r barS 1#32
  semWaitWord barS 2#32

/-- The first hop, on device `c`. -/
def hop0 (c : Dev nD) : KProg F PUnit := do
  tileA true (k0_off1 c 0#32) (k0_off1_inb c 0) 0 0 0 0 ⟨k0_dev3 c, k0_dev3_lt c⟩
  tileA false (k0_off2 c 0#32) (k0_off2_inb c 0) 4 0 0 0 ⟨k0_dev4 c, k0_dev4_lt c⟩
  tileB true 1 1 0 1 ⟨k0_dev5 c, k0_dev5_lt c⟩
  tileB false 5 1 0 1 ⟨k0_dev6 c, k0_dev6_lt c⟩
  tileB true 2 2 0 2 ⟨k0_dev7 c, k0_dev7_lt c⟩
  tileB false 6 2 0 2 ⟨k0_dev8 c, k0_dev8_lt c⟩
  tileC true 3 0 0 0 0 3 ⟨k0_dev9 c, k0_dev9_lt c⟩
  tileC false 7 0 0 0 0 3 ⟨k0_dev10 c, k0_dev10_lt c⟩

/-- The second hop. -/
def hop1 (c : Dev nD) : KProg F PUnit := do
  tileD true (k0_off1 c 1#32) (k0_off1_inb c 1) 0 1 0 1 0 0 1 0 ⟨k0_dev11 c, k0_dev11_lt c⟩
  tileD false (k0_off2 c 1#32) (k0_off2_inb c 1) 4 1 0 1 0 0 1 0 ⟨k0_dev12 c, k0_dev12_lt c⟩
  tileE true 1 2 0 2 1 0 1 1 ⟨k0_dev13 c, k0_dev13_lt c⟩
  tileE false 5 2 0 2 1 0 1 1 ⟨k0_dev14 c, k0_dev14_lt c⟩
  tileE true 2 0 0 3 2 0 1 2 ⟨k0_dev15 c, k0_dev15_lt c⟩
  tileE false 6 0 0 3 2 0 1 2 ⟨k0_dev16 c, k0_dev16_lt c⟩
  tileE true 3 1 1 0 0 0 1 3 ⟨k0_dev17 c, k0_dev17_lt c⟩
  tileE false 7 1 1 0 0 0 1 3 ⟨k0_dev18 c, k0_dev18_lt c⟩

/-- The tiles of the third hop, which follow a second handshake. -/
def hop2Tiles (c : Dev nD) : KProg F PUnit := do
  tileD true (k0_off1 c 2#32) (k0_off1_inb c 2) 0 2 1 1 1 1 0 0 ⟨k0_dev21 c, k0_dev21_lt c⟩
  tileD false (k0_off2 c 2#32) (k0_off2_inb c 2) 4 2 1 1 1 1 0 0 ⟨k0_dev22 c, k0_dev22_lt c⟩
  tileE true 1 0 1 2 2 1 0 1 ⟨k0_dev23 c, k0_dev23_lt c⟩
  tileE false 5 0 1 2 2 1 0 1 ⟨k0_dev24 c, k0_dev24_lt c⟩
  tileE true 2 1 1 3 0 1 0 2 ⟨k0_dev25 c, k0_dev25_lt c⟩
  tileE false 6 1 1 3 0 1 0 2 ⟨k0_dev26 c, k0_dev26_lt c⟩
  tileE true 3 2 0 0 1 1 0 3 ⟨k0_dev27 c, k0_dev27_lt c⟩
  tileE false 7 2 0 0 1 1 0 3 ⟨k0_dev28 c, k0_dev28_lt c⟩

/-- The device's own parts of the result. -/
def own (c : Dev nD) : KProg F PUnit := do
  startX F true (k0_off3 c) (k0_off3_inb c)
  waitX F true (k0_off3 c) (k0_off3_inb c)
  ownTile 0
  ownTile 4
  ownTile 1
  ownTile 5
  ownTile 2
  ownTile 6
  ownTile 3
  ownTile 7

/-- The end of the result's tiles. -/
def ending : KProg F PUnit := do
  lastTile true 0 1 2 0 0
  lastTile false 0 1 2 0 4
  lastTile true 1 2 0 1 1
  lastTile false 1 2 0 1 5
  lastTile true 2 3 1 2 2
  lastTile false 2 3 1 2 6
  finish true 2 3 3
  finish false 2 3 7

variable (F) in
/-- The whole body. -/
def steps : KProg F PUnit := do
  let c : Dev nD ← Prog.lift .deviceId
  handshake F ⟨k0_dev1 c, k0_dev1_lt c⟩ ⟨k0_dev2 c, k0_dev2_lt c⟩
  hop0 c
  hop1 c
  handshake F ⟨k0_dev19 c, k0_dev19_lt c⟩ ⟨k0_dev20 c, k0_dev20_lt c⟩
  hop2Tiles c
  own c
  ending

set_option maxRecDepth 65536 in
theorem body_eq (t : Fin cfg0.N) : bodyAt0 (F := F) t = steps F := by
  chain_rfl

end Cert.RingProof
end
-- ==== Proof.Protocol.lean ====
/-
# The protocol

Four devices stand in a ring. Two rings of transfers run over them: the clockwise one (`true`) sends to the next
device, the counter-clockwise one (`false`) to the device before. In each, a device sends twelve tiles: four in each of
three hops. Hop 0 and hop 2 land in slot 0 of the receiver's buffer, hop 1 in slot 1.

Who waits, who raises, and what is handed over:

* the barrier semaphore of a device has two rounds. In each, both neighbours raise it by one and the device waits for
  two. In the first round the next device hands over all its clockwise receive slots, the one before all its
  counter-clockwise ones. In the second round each hands over its slot 0 again: by then it has read what hop 0 left
  there.
* send semaphore `k` of a ring has four rounds, one for each transfer out of send slot `k`; the transfer raises it when
  it has left, handing the send slot back.
* receive semaphore `(s, t)` of a ring has a round for each landing in tile `t` of slot `s`: hops 0 and 2 for slot 0,
  hop 1 for slot 1. The landing hands over the tile, holding the sender's partial sum of that hop, and the fact that
  the sender has passed its first handshake: only with it may the receiver raise the sender's barrier a second time.

A device's debts are numbered by the hop they belong to, so that at every wait all it still owes has a higher number
than what it waits for: first barrier 1, hop 0 at 2, hop 1 at 4, second barrier 5, hop 2 at 6. Its own copies are
waited for at number 0.
-/
module

public import proofs.«01_k».proof.Proof.Program
public import Idealize.ShloMosaic.Lib.Pipeline.TalkSites

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Idealize.ShloMosaic.Pipeline (Dat Cfg Window BodyObligation cellOf)

variable {F : FTy → Type} [FloatOps F]

/-! ## The ghost state: the launch's, the rounds of the ring's cells, the counters of a device's own copies -/

abbrev UB : Type := URounds (GSem nD τ sig) Bool
abbrev UU : Type := UR sig nD τ × (UB × Counters)

local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) :=
  ((Emb.inl : Emb UB (UB × Counters)).trans (Emb.inr : Emb (UB × Counters) UU)).trans
    (uEmb (nD := nD) (sig := sig) (Ix := ℕ) (Val := Elt F) (Name := ℕ) (U := UU) (Lvl := ℕ)).toEmb
instance ER_landsIn : (ER : Emb UB 𝕄).LandsIn (upEmb : UEmb _ 𝕄) := by unfold ER; infer_instance
def EC : UEmb Counters (MT nD τ sig ℕ (Elt F) ℕ UU ℕ) :=
  ((UEmb.inr : UEmb Counters (UB × Counters)).trans (UEmb.inr : UEmb (UB × Counters) UU)).trans
    (uEmb (nD := nD) (sig := sig) (Ix := ℕ) (Val := Elt F) (Name := ℕ) (U := UU) (Lvl := ℕ))
instance EC_landsIn : (EC : UEmb Counters 𝕄).LandsIn (upEmb : UEmb _ 𝕄) := by unfold EC; infer_instance

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-! ## The ring of devices -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

/-- The device ring `d` sends to, and the one it receives from. -/
abbrev tgt (d : Bool) (c : Dev nD) : Dev nD := cond d (nxt c) (prv c)
abbrev frm (d : Bool) (c : Dev nD) : Dev nD := cond d (prv c) (nxt c)

theorem to_frm (d : Bool) (c : Dev nD) : tgt d (frm d c) = c := by revert d c; decide
theorem frm_to (d : Bool) (c : Dev nD) : frm d (tgt d c) = c := by revert d c; decide
theorem to_not (d : Bool) (c : Dev nD) : tgt (!d) c = frm d c := by cases d <;> rfl

def ring (d : Bool) : Dev nD ≃ Dev nD := ⟨tgt d, frm d, frm_to d, to_frm d⟩

/-! ## The cells -/

abbrev barCell (c : Dev nD) : GSem nD τ sig := ((c : Thread nD τ), .reg barS)
abbrev sentCell (c : Dev nD) (d : Bool) (k : Fin 3) : GSem nD τ sig := ((c : Thread nD τ), .dma (sSem d k))
abbrev cameCell (c : Dev nD) (d : Bool) (s : Fin 2) (t : Fin 4) : GSem nD τ sig := ((c : Thread nD τ), .dma (rSem d s t))

/-- What a semaphore is for. -/
inductive Role where
  | bar
  | sent (d : Bool) (k : Fin 3)
  | came (d : Bool) (s : Fin 2) (t : Fin 4)
  | none
deriving DecidableEq

def role : SemLoc sig → Role
  | .reg s => if s = barS then .bar else .none
  | .dma q =>
    if q.val < 6 then .sent (decide (q.val < 3)) (Fin.ofNat 3 q.val)
    else if q.val < 22 then .came (decide (q.val < 14)) (Fin.ofNat 2 ((q.val - 6) / 4)) (Fin.ofNat 4 (q.val - 6))
    else .none

theorem role_bar : role (.reg barS) = .bar := by decide
theorem role_sent (d : Bool) (k : Fin 3) : role (.dma (sSem d k)) = .sent d k := by revert d k; decide
theorem role_came (d : Bool) (s : Fin 2) (t : Fin 4) : role (.dma (rSem d s t)) = .came d s t := by revert d s t; decide

/-- The ring's cells of a device in one list: the send and receive semaphores and the barrier. -/
abbrev csem (i : Fin 23) : SemLoc sig := if h : i.val < 22 then .dma ⟨i.val, lt_trans h (by decide)⟩ else .reg barS
abbrev kcell (ck : Dev nD × Fin 23) : GSem nD τ sig := ((ck.1 : Thread nD τ), csem ck.2)
abbrev iBar : Fin 23 := 22
def iSent (d : Bool) (k : Fin 3) : Fin 23 := ⟨cond d 0 3 + k.val, by have := k.isLt; cases d <;> simp <;> omega⟩
def iCame (d : Bool) (s : Fin 2) (t : Fin 4) : Fin 23 :=
  ⟨cond d 6 14 + 4 * s.val + t.val, by have := s.isLt; have := t.isLt; cases d <;> simp <;> omega⟩
theorem csem_bar : csem iBar = .reg barS := by decide
theorem csem_sent (d : Bool) (k : Fin 3) : csem (iSent d k) = .dma (sSem d k) := by revert d k; decide
theorem csem_came (d : Bool) (s : Fin 2) (t : Fin 4) : csem (iCame d s t) = .dma (rSem d s t) := by revert d s t; decide

/-- The units of a tile's transfer. -/
abbrev N : ℕ := (wT : Memref sig .tc .vmem S1024x1024 .f32).view.dmaCredit
theorem N_pos : 0 < N := View.dmaCredit_pos _ (by decide)

/-! ## The contents -/

def xv (c : Dev nD) : (xM : Memref sig .tc .hbm S4096x1024 .f32).view.ty.Contents (Elt F) := m ((c : Thread nD τ).loc main_arg0)
def wv (c : Dev nD) : (wM : Memref sig .tc .hbm S1024x8192 .f32).view.ty.Contents (Elt F) := m ((c : Thread nD τ).loc main_arg1)

/-- The rows of `x` from an offset, and column tile `j` of `w`, on a device. -/
def xrows (c : Dev nD) (off : Fin 2 → ℕ) (h : ∀ a, off a + S1024x1024.size a ≤ S4096x1024.size a) : Vec F S1024x1024 .f32 :=
  fun i => (xM : Memref sig .tc .hbm S4096x1024 .f32).view.read (Elt F) (xv m c) ((Rect.unit (s := S4096x1024) off S1024x1024.size h).emb i)
def wtile (c : Dev nD) (j : Fin 8) : Vec F S1024x1024 .f32 :=
  fun i => (wM : Memref sig .tc .hbm S1024x8192 .f32).view.read (Elt F) (wv m c)
    ((Rect.unit (s := S1024x8192) ![0, 1024 * j.val] S1024x1024.size (wInb j)).emb i)

theorem rowInb (r : Fin 4) : ∀ a, (![1024 * r.val, 0] : Fin 2 → ℕ) a + S1024x1024.size a ≤ S4096x1024.size a := by
  revert r; decide
/-- Row block `r` of `x`. -/
def xblk (c : Dev nD) (r : Fin 4) : Vec F S1024x1024 .f32 := xrows m c ![1024 * r.val, 0] (rowInb r)

omit [FloatOps F] in
theorem xrows_eq (c : Dev nD) (r : Fin 4) (off : Fin 2 → ℕ) (h : ∀ a, off a + S1024x1024.size a ≤ S4096x1024.size a)
    (e : off = ![1024 * r.val, 0]) : xrows m c off h = xblk m c r := by subst e; rfl

/-- The column tile of the result that ring `d`'s tile `t` is. -/
def col (d : Bool) (t : Fin 4) : Fin 8 := ⟨cond d 0 4 + t.val, by have := t.isLt; cases d <;> simp <;> omega⟩
/-- The row block ring `d` multiplies on device `c` at hop `h`. -/
def row (d : Bool) (c : Dev nD) (h : ℕ) : Fin 4 := Fin.ofNat 4 (cond d (c.val + 7 - h) (c.val + h + 1))

/-- A device's product of row block `r` of `x` and column tile `j` of `w`. -/
def prod (c : Dev nD) (r : Fin 4) (j : Fin 8) : Vec F S1024x1024 .f32 := dot (xblk m c r) (wtile m c j)

/-- The partial sum device `c` sends in ring `d` at hop `h`, tile `t`. -/
def partSum (d : Bool) (t : Fin 4) : ℕ → Dev nD → Vec F S1024x1024 .f32
  | 0, c => prod m c (row d c 0) (col d t)
  | h + 1, c => addf (prod m c (row d c (h + 1)) (col d t)) (partSum d t h (frm d c))

/-- The result's tile. -/
def outTile (c : Dev nD) (d : Bool) (t : Fin 4) : Vec F S1024x1024 .f32 :=
  silu (addf (prod m c c (col d t)) (partSum m d t 2 (frm d c)))

/-! ## The schedule -/

/-- A memref of device `c` held at contents `X`. -/
def has (c : Dev nD) {sp : Space} (b : Memref sig .tc sp S1024x1024 .f32) (X : Vec F S1024x1024 .f32) : sProp 𝕄 :=
  owns (c : Thread nD τ) b fullShare X
/-- A memref of device `c` held at any contents. -/
def hasAny (c : Dev nD) {sp : Space} (b : Memref sig .tc sp S1024x1024 .f32) : sProp 𝕄 := iprop(∃ Y, has c b Y)

omit [FloatOps F] in
instance has_storable (c : Dev nD) {sp : Space} (b : Memref sig .tc sp S1024x1024 .f32) (X : Vec F S1024x1024 .f32) :
    BI.Storable (upEmb : UEmb _ 𝕄) (has c b X) := by unfold has; infer_instance
omit [FloatOps F] in
instance hasAny_storable (c : Dev nD) {sp : Space} (b : Memref sig .tc sp S1024x1024 .f32) :
    BI.Storable (upEmb : UEmb _ 𝕄) (hasAny (F := F) c b) := by unfold hasAny; infer_instance
omit [FloatOps F] in
theorem has_any (c : Dev nD) {sp : Space} (b : Memref sig .tc sp S1024x1024 .f32) (X : Vec F S1024x1024 .f32) :
    (has c b X : sProp 𝕄) ⊢ hasAny c b := by unfold hasAny; iintro H; iexists X; iexact H

/-- Four of something. -/
def four (Φ : Fin 4 → sProp 𝕄) : sProp 𝕄 := iprop(Φ 0 ∗ Φ 1 ∗ Φ 2 ∗ Φ 3)
omit [FloatOps F] in
instance four_storable (Φ : Fin 4 → sProp 𝕄) [∀ i, BI.Storable (upEmb : UEmb _ 𝕄) (Φ i)] :
    BI.Storable (upEmb : UEmb _ 𝕄) (four Φ) := by unfold four; infer_instance

/-- The receiver's tile, free to land in, of landing round `r`. -/
def room (c : Dev nD) (d : Bool) (s : Fin 2) (t : Fin 4) (r : ℕ) : sProp 𝕄 :=
  iprop(hasAny c (rSlot d s t) ∗ reached ER (cameCell c d s t) r)
omit [FloatOps F] in
instance room_storable (c : Dev nD) (d : Bool) (s : Fin 2) (t : Fin 4) (r : ℕ) :
    BI.Storable (upEmb : UEmb _ 𝕄) (room (F := F) c d s t r) := by unfold room; infer_instance

/-- What the first round of the barrier hands `c` for ring `d`: both slots of the device it sends to. -/
def barPay0 (d : Bool) (c : Dev nD) : sProp 𝕄 :=
  iprop(four (fun t => room (tgt d c) d 0 t 0) ∗ four (fun t => room (tgt d c) d 1 t 0))
/-- What the second round hands over: slot 0 again. -/
def barPay1 (d : Bool) (c : Dev nD) : sProp 𝕄 := four fun t => room (tgt d c) d 0 t 1

/-- That device `c` has passed its first handshake. -/
def met (c : Dev nD) : sProp 𝕄 := reached ER (barCell c) 1
omit [FloatOps F] in
instance met_storable (c : Dev nD) : BI.Storable (upEmb : UEmb _ 𝕄) (met (F := F) c) := by unfold met; infer_instance
omit [FloatOps F] in
instance met_persistent (c : Dev nD) : BI.Persistent (met (F := F) c : sProp 𝕄) := by unfold met; infer_instance
/-- What a landing hands over: the tile at `X`, and that the sender has passed its first handshake. -/
def landed (c : Dev nD) (d : Bool) (s : Fin 2) (t : Fin 4) (X : Vec F S1024x1024 .f32) : sProp 𝕄 :=
  iprop(has c (rSlot d s t) X ∗ met (frm d c))
omit [FloatOps F] in
instance landed_storable (c : Dev nD) (d : Bool) (s : Fin 2) (t : Fin 4) (X : Vec F S1024x1024 .f32) :
    BI.Storable (upEmb : UEmb _ 𝕄) (landed c d s t X) := by unfold landed; infer_instance

/-- The hop that lands in slot `s` at round `r`. -/
def hopOf (s : Fin 2) (r : ℕ) : ℕ := if s = 1 then 1 else 2 * r

def ringRd : Rounds.Schedule (GSem nD τ sig) Bool 𝕄 where
  duties g r := if g.1.2 = .tc then
      match role g.2 with
      | .bar => if r < 2 then Finset.univ else ∅
      | .sent _ _ => if r < 4 then {false} else ∅
      | .came _ s _ => if r < (if s = 1 then 1 else 2) then {false} else ∅
      | .none => ∅
    else ∅
  unitless _ := False
  amount g _ _ := if role g.2 = .bar then 1 else N
  payload g r b := match role g.2 with
    | .bar => if r = 0 then barPay0 b g.1.1 else barPay1 b g.1.1
    | .sent d k => hasAny g.1.1 (sSlot d k)
    | .came d s t => landed g.1.1 d s t (partSum m d t (hopOf s r) (frm d g.1.1))
    | .none => iprop(emp)
  amount_pos g _ _ _ := by
    by_cases h : role g.2 = .bar
    · rw [if_pos h]; exact Nat.one_pos
    · rw [if_neg h]; exact N_pos

instance ringRd_payload_storable (g : GSem nD τ sig) (r : ℕ) (d : Bool) :
    BI.Storable (upEmb : UEmb _ 𝕄) ((ringRd (F := F) m).payload g r d) := by
  show BI.Storable upEmb (match role g.2 with
    | .bar => if r = 0 then barPay0 d g.1.1 else barPay1 d g.1.1
    | .sent d k => hasAny g.1.1 (sSlot d k)
    | .came d s t => landed g.1.1 d s t (partSum m d t (hopOf s r) (frm d g.1.1))
    | .none => iprop(emp))
  unfold barPay0 barPay1
  split
  · split <;> infer_instance
  all_goals infer_instance

section Sched
variable (c : Dev nD)

theorem duties_bar {r : ℕ} (hr : r < 2) : (ringRd (F := F) m).duties (barCell c) r = Finset.univ := by
  dsimp only [ringRd]; rw [if_pos rfl, role_bar]; exact if_pos hr
theorem duties_sent (d : Bool) (k : Fin 3) {r : ℕ} (hr : r < 4) : (ringRd (F := F) m).duties (sentCell c d k) r = {false} := by
  dsimp only [ringRd]; rw [if_pos rfl, role_sent]; exact if_pos hr
theorem duties_came (d : Bool) (s : Fin 2) (t : Fin 4) {r : ℕ} (hr : r < (if s = 1 then 1 else 2)) :
    (ringRd (F := F) m).duties (cameCell c d s t) r = {false} := by
  dsimp only [ringRd]; rw [if_pos rfl, role_came]; exact if_pos hr

theorem duties_bar_later : ∀ r, 2 ≤ r → (ringRd (F := F) m).duties (barCell c) r = ∅ := fun r hr => by
  dsimp only [ringRd]; rw [if_pos rfl, role_bar]; exact if_neg (by omega)
theorem duties_sent_later (d : Bool) (k : Fin 3) : ∀ r, 4 ≤ r → (ringRd (F := F) m).duties (sentCell c d k) r = ∅ := fun r hr => by
  dsimp only [ringRd]; rw [if_pos rfl, role_sent]; exact if_neg (by omega)
theorem duties_came_later (d : Bool) (s : Fin 2) (t : Fin 4) :
    ∀ r, (if s = 1 then 1 else 2) ≤ r → (ringRd (F := F) m).duties (cameCell c d s t) r = ∅ := fun r hr => by
  dsimp only [ringRd]; rw [if_pos rfl, role_came]; exact if_neg (by omega)

theorem amount_bar (r : ℕ) (b : Bool) : (ringRd (F := F) m).amount (barCell c) r b = 1 := by
  dsimp only [ringRd]; exact if_pos role_bar
theorem amount_sent (d : Bool) (k : Fin 3) (r : ℕ) (b : Bool) : (ringRd (F := F) m).amount (sentCell c d k) r b = N := by
  dsimp only [ringRd]; rw [role_sent]; exact if_neg nofun
theorem amount_came (d : Bool) (s : Fin 2) (t : Fin 4) (r : ℕ) (b : Bool) : (ringRd (F := F) m).amount (cameCell c d s t) r b = N := by
  dsimp only [ringRd]; rw [role_came]; exact if_neg nofun

theorem expect_bar {r : ℕ} (hr : r < 2) : (ringRd (F := F) m).expect (barCell c) r = 2 := by
  unfold Schedule.expect Schedule.amountOf
  rw [duties_bar m c hr, Finset.sum_congr rfl fun d _ => amount_bar m c r d, Finset.sum_const, Finset.card_univ, Fintype.card_bool, smul_eq_mul]
theorem expect_sent (d : Bool) (k : Fin 3) {r : ℕ} (hr : r < 4) : (ringRd (F := F) m).expect (sentCell c d k) r = N := by
  unfold Schedule.expect Schedule.amountOf; rw [duties_sent m c d k hr, Finset.sum_singleton, amount_sent]
theorem expect_came (d : Bool) (s : Fin 2) (t : Fin 4) {r : ℕ} (hr : r < (if s = 1 then 1 else 2)) :
    (ringRd (F := F) m).expect (cameCell c d s t) r = N := by
  unfold Schedule.expect Schedule.amountOf; rw [duties_came m c d s t hr, Finset.sum_singleton, amount_came]

theorem payload_bar0 (b : Bool) : (ringRd (F := F) m).payload (barCell c) 0 b = barPay0 b c := by
  dsimp only [ringRd]; rw [role_bar]; exact if_pos rfl
theorem payload_bar1 (b : Bool) : (ringRd (F := F) m).payload (barCell c) 1 b = barPay1 b c := by
  dsimp only [ringRd]; rw [role_bar]; exact if_neg nofun
theorem payload_sent (d : Bool) (k : Fin 3) (r : ℕ) (b : Bool) : (ringRd (F := F) m).payload (sentCell c d k) r b = hasAny c (sSlot d k) := by
  dsimp only [ringRd]; rw [role_sent]
theorem payload_came (d : Bool) (s : Fin 2) (t : Fin 4) (r : ℕ) (b : Bool) :
    (ringRd (F := F) m).payload (cameCell c d s t) r b = landed c d s t (partSum m d t (hopOf s r) (frm d c)) := by
  dsimp only [ringRd]; rw [role_came]

theorem rest_bar0 : bigSep ((ringRd (F := F) m).duties (barCell c) 0 \ ∅) (fun b => (ringRd (F := F) m).payload (barCell c) 0 b)
    = iprop(barPay0 true c ∗ barPay0 false c) := by
  rw [Finset.sdiff_empty, duties_bar m c (by decide), bigSep_univ_eq_bigSepL [true, false] (by decide) (by decide), bigSepL_cons_cons,
    bigSepL_singleton, payload_bar0, payload_bar0]
  rfl
theorem rest_bar1 : bigSep ((ringRd (F := F) m).duties (barCell c) 1 \ ∅) (fun b => (ringRd (F := F) m).payload (barCell c) 1 b)
    = iprop(barPay1 true c ∗ barPay1 false c) := by
  rw [Finset.sdiff_empty, duties_bar m c (by decide), bigSep_univ_eq_bigSepL [true, false] (by decide) (by decide), bigSepL_cons_cons,
    bigSepL_singleton, payload_bar1, payload_bar1]
  rfl
theorem rest_sent (d : Bool) (k : Fin 3) {r : ℕ} (hr : r < 4) :
    bigSep ((ringRd (F := F) m).duties (sentCell c d k) r \ ∅) (fun b => (ringRd (F := F) m).payload (sentCell c d k) r b)
      = hasAny c (sSlot d k) := by
  rw [Finset.sdiff_empty, duties_sent m c d k hr, bigSep_singleton, payload_sent]
theorem rest_came (d : Bool) (s : Fin 2) (t : Fin 4) {r : ℕ} (hr : r < (if s = 1 then 1 else 2)) :
    bigSep ((ringRd (F := F) m).duties (cameCell c d s t) r \ ∅) (fun b => (ringRd (F := F) m).payload (cameCell c d s t) r b)
      = landed c d s t (partSum m d t (hopOf s r) (frm d c)) := by
  rw [Finset.sdiff_empty, duties_came m c d s t hr, bigSep_singleton, payload_came]

end Sched

/-! ## What a device owes -/

/-- The number hop `h`'s debts stand at. -/
def hopLv (h : ℕ) : ℕ := 2 * (h + 1)
/-- A handshake's two payments. -/
def barPays (c : Dev nD) (i : ℕ) : List (Pay nD τ sig) := [(barCell (prv c), i, 1), (barCell (nxt c), i, 1)]
/-- The payment of a transfer. -/
def sendPay (c : Dev nD) (d : Bool) (s : Fin 2) (t : Fin 4) (i : ℕ) : Pay nD τ sig := (cameCell (tgt d c) d s t, i, N)
/-- A hop's eight transfers, in the order they are started. -/
def hopPays (c : Dev nD) (s : Fin 2) (i : ℕ) : List (Pay nD τ sig) :=
  [sendPay c true s 0 i, sendPay c false s 0 i, sendPay c true s 1 i, sendPay c false s 1 i,
   sendPay c true s 2 i, sendPay c false s 2 i, sendPay c true s 3 i, sendPay c false s 3 i]
def dues2 (c : Dev nD) : List (Pay nD τ sig) := hopPays c 0 6 ++ []
def dues1 (c : Dev nD) : List (Pay nD τ sig) := hopPays c 1 4 ++ (barPays c 5 ++ dues2 c)
def dues0 (c : Dev nD) : List (Pay nD τ sig) := hopPays c 0 2 ++ dues1 c
def dues (c : Dev nD) : List (Pay nD τ sig) := barPays c 1 ++ dues0 c

abbrev Lv : GSem nD τ sig → Finset ℕ := SiteBlocks.L 7
abbrev lv : GSem nD τ sig → ℕ → ℕ := SiteBlocks.lv

/-- Every payment of a list stands above the number `i`. -/
def Over (i : ℕ) (l : List (Pay nD τ sig)) : Prop := ∀ x ∈ l, x.1.1.2 = .tc ∧ i < x.2.1 ∧ x.2.1 < 7

theorem Over.nil (i : ℕ) : Over i [] := nofun
theorem Over.cons {i : ℕ} {x : Pay nD τ sig} {l : List (Pay nD τ sig)} (h1 : x.1.1.2 = .tc) (h2 : i < x.2.1) (h3 : x.2.1 < 7)
    (h : Over i l) : Over i (x :: l) := by
  intro y hy
  rcases List.mem_cons.mp hy with rfl | hy
  · exact ⟨h1, h2, h3⟩
  · exact h y hy
theorem Over.tail {i : ℕ} {x : Pay nD τ sig} {l : List (Pay nD τ sig)} (h : Over i (x :: l)) : Over i l :=
  fun y hy => h y (List.mem_cons_of_mem _ hy)
theorem Over.append {i : ℕ} {l l' : List (Pay nD τ sig)} (h : Over i l) (h' : Over i l') : Over i (l ++ l') := fun y hy =>
  (List.mem_append.mp hy).elim (h y) (h' y)
theorem Over.le {i j : ℕ} {l : List (Pay nD τ sig)} (h : Over i l) (hj : j ≤ i) : Over j l := fun y hy =>
  ⟨(h y hy).1, lt_of_le_of_lt hj (h y hy).2.1, (h y hy).2.2⟩
theorem over_bar (c : Dev nD) {i j : ℕ} (h : i < j) (h' : j < 7) : Over i (barPays c j) :=
  Over.cons rfl h h' (Over.cons rfl h h' (Over.nil i))
theorem over_hop (c : Dev nD) (s : Fin 2) {i j : ℕ} (h : i < j) (h' : j < 7) : Over i (hopPays c s j) := by
  unfold hopPays
  repeat' first | exact Over.nil i | refine Over.cons rfl h h' ?_
theorem over_dues2 (c : Dev nD) : Over 5 (dues2 c) := (over_hop c 0 (by decide) (by decide)).append (Over.nil 5)
theorem over_dues1 (c : Dev nD) : Over 3 (dues1 c) :=
  (over_hop c 1 (by decide) (by decide)).append ((over_bar c (by decide) (by decide)).append ((over_dues2 c).le (by decide)))
theorem over_dues0 (c : Dev nD) : Over 1 (dues0 c) :=
  (over_hop c 0 (by decide) (by decide)).append ((over_dues1 c).le (by decide))

omit [FloatOps F] in
/-- A device may wait at a number below all it owes. -/
theorem mayWait (c : Dev nD) (sm : SemLoc sig) {i : ℕ} {l : List (Pay nD τ sig)} (hi : i < 7) (h : Over i l) :
    (levAts Lv lv : sProp 𝕄) ⊢ MayWait (c : Thread nD τ) sm i (tallyL l) := by
  have e : (tallyL l : CellTallies nD τ sig ℕ) = addL ((fun _ : Dev nD => (0 : CellTallies nD τ sig ℕ)) c) l := by
    rw [addL_eq, zero_add]
  rw [e]
  exact mayWait_addL hi (le_refl 7) (SiteBlocks.above_zero 7 7) c sm l h

/-- What a device owes, whatever it has waited for. -/
def owing (c : Dev nD) (l : List (Pay nD τ sig)) : sProp 𝕄 := iprop(∃ W, owes (c : Thread nD τ) (tallyL l) W)

abbrev 𝒱₀ : Variants := Variants.none

end Cert.RingProof
end
-- ==== Proof.Steps.lean ====
/-
# One operation at a time

What each operation of the body needs and what it leaves: loads and stores, the copies a device makes for itself, the
transfers between devices, and the waits. Each is stated with its buffers owned through the memref it names.
-/
module

public import proofs.«01_k».proof.Proof.Protocol
public import Idealize.ShloMosaic.Lib.Pipeline.Value
public import Idealize.ShloMosaic.Lib.Transfers

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites Idealize.ShloMosaic.Transfers

variable {F : FTy → Type} [FloatOps F]

local notation "𝕄" => MT nD τ sig ℕ (Elt F) ℕ UU ℕ

variable (m : (ℓ : Loc nD τ sig) → Buf (Elt F) ℓ) (K : Dev nD × Fin 23 → ℕ)

/-- What a device has left to do, as a program of the body's. -/
abbrev run (c : Dev nD) {α : Type} (p : KProg F α) (Q : α → sProp 𝕄) : sProp 𝕄 :=
  wp frame (wpE (defs₀ (F := F)) 𝒱₀ (c : Thread nD τ) none) Set.univ p Q

theorem run_bind (c : Dev nD) {α β : Type} (p : KProg F α) (k : α → KProg F β) (Q : β → sProp 𝕄) :
    run c (p >>= k) Q = run c p fun a => run c (k a) Q := wp_bind ..

theorem run_pure (c : Dev nD) {α : Type} (a : α) (Q : α → sProp 𝕄) : Q a ⊢ run c (pure a : KProg F α) Q := by
  show Q a ⊢ wp _ _ _ (.ret a) Q
  rw [wp_ret]; iintro H; imodintro; iexact H

/-! ## The invariants of the ring's cells -/

/-- Every cell's invariant. -/
def invs : sProp 𝕄 := bigSep Finset.univ fun ck : Dev nD × Fin 23 => cellInv ER (ringRd m) (K ck) (kcell ck)

instance invs_persistent : BI.Persistent (invs m K : sProp 𝕄) := by unfold invs; infer_instance

theorem invs_at (ck : Dev nD × Fin 23) : invs m K ⊢ cellInv ER (ringRd m) (K ck) (kcell ck) := by
  unfold invs; exact bigSep_elim (Finset.mem_univ ck)
theorem invs_bar (c : Dev nD) : invs m K ⊢ cellInv ER (ringRd m) (K (c, iBar)) (barCell c) := invs_at m K (c, iBar)
theorem invs_sent (c : Dev nD) (d : Bool) (k : Fin 3) :
    invs m K ⊢ cellInv ER (ringRd m) (K (c, iSent d k)) (sentCell c d k) := by
  have h := invs_at m K (c, iSent d k); rwa [kcell, csem_sent] at h
theorem invs_came (c : Dev nD) (d : Bool) (s : Fin 2) (t : Fin 4) :
    invs m K ⊢ cellInv ER (ringRd m) (K (c, iCame d s t)) (cameCell c d s t) := by
  have h := invs_at m K (c, iCame d s t); rwa [kcell, csem_came] at h

/-! ## Loads and stores -/

theorem full_emb (i : S1024x1024.Idx) : full.emb i = i := by
  funext a
  apply Fin.ext
  show (![0, 0] : Fin 2 → ℕ) a + 1 * (i a).val = (i a).val
  match a with
  | ⟨0, _⟩ => exact (Nat.zero_add _).trans (Nat.one_mul _)
  | ⟨1, _⟩ => exact (Nat.zero_add _).trans (Nat.one_mul _)

theorem load_full (b : Memref sig .tc .vmem S1024x1024 .f32) (f : b.view.ty.Contents (Elt F)) :
    b.view.readAt (Elt F) full.toLoadRect f = b.view.read (Elt F) f :=
  funext fun i => congrArg (b.view.read (Elt F) f) (full_emb i)

theorem store_full (b : Memref sig .tc .vmem S1024x1024 .f32) (f : b.view.ty.Contents (Elt F)) (w : Vec F S1024x1024 .f32) :
    b.view.read (Elt F) ((b.access full).write (Elt F) f w Finset.univ) = w :=
  funext fun i => by
    have h := View.read_slice_write_emb (v := b.view) (Val := Elt F) full f w (Finset.mem_univ i)
    rw [full_emb] at h; exact h

theorem loadT_ok (c : Dev nD) (b : Memref sig .tc .vmem S1024x1024 .f32) (X : Vec F S1024x1024 .f32)
    (Q : Vec F S1024x1024 .f32 → sProp 𝕄) : has c b X ⊢ iprop((has c b X -∗ Q X) -∗ run c (loadT F b) Q) := by
  unfold has owns loadT run Prog.lift
  iintro ⟨%f, %hf, H⟩ Hk
  iapply (wp_load 𝒱₀ (c : Thread nD τ) none Set.univ (m := b) (View.setOn_subset_set _ _)) $$ H
  iintro H
  rw [wp_ret, load_full, hf]; imodintro
  iapply Hk; iexists f; isplitr
  · ipureintro; exact hf
  · iexact H

theorem loadAny_ok (c : Dev nD) (b : Memref sig .tc .vmem S1024x1024 .f32) (Q : Vec F S1024x1024 .f32 → sProp 𝕄) :
    (hasAny c b : sProp 𝕄) ⊢ iprop((∀ v, hasAny c b -∗ Q v) -∗ run c (loadT F b) Q) := by
  unfold hasAny
  iintro ⟨%X, H⟩ Hk
  iapply (loadT_ok c b X Q) $$ [H]
  · iexact H
  iintro H
  iapply Hk; iexists X; iexact H

theorem storeT_ok (c : Dev nD) (b : Memref sig .tc .vmem S1024x1024 .f32) (X : Vec F S1024x1024 .f32)
    (Q : PUnit → sProp 𝕄) : (hasAny c b : sProp 𝕄) ⊢ iprop((has c b X -∗ Q ⟨⟩) -∗ run c (storeT b X) Q) := by
  unfold hasAny has owns storeT run Prog.lift
  iintro ⟨%Y, %f, %hf, H⟩ Hk
  iapply (wp_store 𝒱₀ (c : Thread nD τ) none Set.univ (m := b) (r := full) (Mk := Finset.univ)
    ((View.setOn_subset_set _ _).trans (b.view.set_slice_subset full))) $$ H
  iintro H
  rw [wp_ret]; imodintro
  iapply Hk; iexists _; isplitr
  · ipureintro; exact store_full b f X
  · iexact H

theorem slot_set (d : Bool) (k : Fin 3) : ((sB d).access (sRect k)).set = (sSlot d k).view.set :=
  (View.set_reshape _ _).symm

theorem shapeCasts_S1x1024x1024_S1024x1024 : S1x1024x1024.ShapeCasts S1024x1024 := by decide

theorem store_slot (d : Bool) (k : Fin 3) (f : (sB d).view.ty.Contents (Elt F)) (w : Vec F S1024x1024 .f32) :
    (sSlot d k).view.read (Elt F) (((sB d).access (sRect k)).write (Elt F) f (slab w) Finset.univ) = w := by
  have h : ((sB d).access (sRect k)).read (Elt F) (((sB d).access (sRect k)).write (Elt F) f (slab w) Finset.univ) = slab w :=
    View.read_write_univ (v := (sB d).access (sRect k)) (Val := Elt F) f (slab w)
  have e : (sSlot d k).view.read (Elt F) (((sB d).access (sRect k)).write (Elt F) f (slab w) Finset.univ)
      = shapeCast S1024x1024 (((sB d).access (sRect k)).read (Elt F)
          (((sB d).access (sRect k)).write (Elt F) f (slab w) Finset.univ)) shapeCasts_S1x1024x1024_S1024x1024 := rfl
  rw [e, h]; unfold slab; exact shapeCast_shapeCast w _ _

theorem loadS_ok (c : Dev nD) (d : Bool) (k : Fin 3) (Q : Vec F S1x1024x1024 .f32 → sProp 𝕄) :
    (hasAny c (sSlot d k) : sProp 𝕄) ⊢ iprop((∀ v, hasAny c (sSlot d k) -∗ Q v) -∗ run c (loadS F d k) Q) := by
  unfold hasAny has owns loadS run Prog.lift
  iintro ⟨%Y, %f, %hf, H⟩ Hk
  iapply (wp_load_rect 𝒱₀ (c : Thread nD τ) none Set.univ (m := sB d) (r := sRect k) (le_of_eq (slot_set d k))) $$ H
  iintro H
  rw [wp_ret]; imodintro
  iapply Hk; iexists Y; iexists f; isplitr
  · ipureintro; exact hf
  · iexact H

theorem storeS_ok (c : Dev nD) (d : Bool) (k : Fin 3) (X : Vec F S1024x1024 .f32) (Q : PUnit → sProp 𝕄) :
    (hasAny c (sSlot d k) : sProp 𝕄) ⊢ iprop((has c (sSlot d k) X -∗ Q ⟨⟩) -∗ run c (storeS d k (slab X)) Q) := by
  unfold hasAny has owns storeS run Prog.lift
  iintro ⟨%Y, %f, %hf, H⟩ Hk
  iapply (wp_store 𝒱₀ (c : Thread nD τ) none Set.univ (m := sB d) (r := sRect k) (Mk := Finset.univ)
    ((View.setOn_subset_set _ _).trans (le_of_eq (slot_set d k)))) $$ H
  iintro H
  rw [wp_ret]; imodintro
  iapply Hk; iexists _; isplitr
  · ipureintro; exact store_slot d k f X
  · iexact H

/-! ## A device's own copies -/

/-- A copy in flight, to leave `X` in the destination. -/
def fly (c : Dev nD) (q : DmaSem sig) {sp sp' : Space} (a : Memref sig .tc sp S1024x1024 .f32) (b : Memref sig .tc sp' S1024x1024 .f32)
    (X : Vec F S1024x1024 .f32) : sProp 𝕄 :=
  iprop(∃ fs fd, ⌜a.view.read (Elt F) fs = X⌝ ∗ Flight EC (c : Thread nD τ) (.dma q) 0 N
    iprop((b.view.loc (c : Thread nD τ) ↦[b.view.set]{fullShare} (b.view.write (Elt F) fd (a.view.read (Elt F) fs) Finset.univ))
      ∗ (a.view.loc (c : Thread nD τ) ↦[a.view.set]{fullShare} fs)))

/-- A semaphore of a device's own copies, at rest. -/
def idle (c : Dev nD) (q : DmaSem sig) : sProp 𝕄 := semVal ((c : Thread nD τ), .dma q) 0

theorem start_ok (c : Dev nD) (q : DmaSem sig) {sp sp' : Space} (a : Memref sig .tc sp S1024x1024 .f32)
    (b : Memref sig .tc sp' S1024x1024 .f32) (X : Vec F S1024x1024 .f32) (hN : b.view.amount (.dma q) = N)
    {hsrc : a.view.WordExact} {hdst : b.view.WordExact} {hsem : DmaTarget.Typed (nD := nD) (p := .tc) sp (.dma q) (.here b)}
    (Q : PUnit → sProp 𝕄) :
    has c a X ⊢ iprop(hasAny c b -∗ idle c q -∗ (fly c q a b X -∗ Q ⟨⟩)
      -∗ run c (Prog.lift (.enqueueDma a (.here b) (.dma q) hsrc hdst hsem) : KProg F PUnit) Q) := by
  unfold hasAny has owns idle run Prog.lift
  iintro ⟨%fs, %hfs, Ha⟩ ⟨%Y, %fd, %hfd, Hb⟩ Hi Hk
  iapply (wp_dmaLocal EC 𝒱₀ (c : Thread nD τ) none (src := a) (dst := b) (fs := fs) (fd := fd) 0 N hN N_pos
    (Finset.Subset.refl _)) $$ [Ha Hb Hi]
  · isplitl [Ha]; · iexact Ha
    isplitl [Hb]; · iexact Hb
    iexact Hi
  iintro H
  rw [wp_ret]; imodintro
  iapply Hk; unfold fly; iexists fs; iexists fd; isplitr
  · ipureintro; exact hfs
  · iexact H

theorem wait_ok (c : Dev nD) (q : DmaSem sig) {sp sp' : Space} (a : Memref sig .tc sp S1024x1024 .f32)
    (b : Memref sig .tc sp' S1024x1024 .f32) (X : Vec F S1024x1024 .f32) (hN : b.view.dmaCredit = N)
    {hsrc : a.view.WordExact} {hdst : b.view.WordExact} {l : List (Pay nD τ sig)} (hl : Over 0 l)
    (Q : PUnit → sProp 𝕄) :
    (levAts Lv lv : sProp 𝕄) ⊢ iprop(fly c q a b X -∗ owing c l
      -∗ ((has c a X ∗ has c b X ∗ idle c q ∗ owing c l) -∗ Q ⟨⟩)
      -∗ run c (Prog.lift (.waitDma2 q a b hsrc hdst) : KProg F PUnit) Q) := by
  unfold fly owing run Prog.lift
  iintro Hlev ⟨%fs, %fd, %hfs, Hf⟩ ⟨%W, HO⟩ Hk
  iapply (wp_waitLocalO EC 𝒱₀ (c : Thread nD τ) none (sem := q) (srcw := a) (dstw := b) 0 hN) $$ [Hf HO Hlev]
  · isplitl [Hf]; · iexact Hf
    isplitl [HO]; · iexact HO
    iapply (mayWait c (.dma q) (by decide) hl); iexact Hlev
  iintro ⟨⟨Hb, Ha⟩, Hi, HO⟩
  rw [wp_ret]; imodintro
  iapply Hk
  unfold has owns idle
  isplitl [Ha]
  · iexists fs; isplitr
    · ipureintro; exact hfs
    · iexact Ha
  isplitl [Hb]
  · iexists _; isplitr
    · ipureintro; exact (View.read_write_univ fd (a.view.read (Elt F) fs)).trans hfs
    · iexact Hb
  isplitl [Hi]; · iexact Hi
  iexists _; iexact HO

/-! ## The transfers between devices -/

/-- Send slot `k` of ring `d` free, before its transfer `r`. -/
def slotFree (c : Dev nD) (d : Bool) (k : Fin 3) (r : ℕ) : sProp 𝕄 :=
  iprop(hasAny c (sSlot d k) ∗ atPos ER (sentCell c d k) r ∅ 0 ∗ reached ER (sentCell c d k) r)
/-- Its transfer `r` on the way. -/
def slotBusy (c : Dev nD) (d : Bool) (k : Fin 3) (r : ℕ) : sProp 𝕄 :=
  iprop(cred (tallyAt (sentCell c d k) 0 N) ∗ atPos ER (sentCell c d k) r ∅ 0)
/-- The right to make transfer `r` of slot `k`, which is landing `r'` of the receiver's tile `t` of slot `s`. -/
def pass (c : Dev nD) (d : Bool) (k : Fin 3) (r : ℕ) (s : Fin 2) (t : Fin 4) (r' : ℕ) : sProp 𝕄 :=
  iprop(dutyTok ER (sentCell c d k) r false ∗ dutyTok ER (cameCell (tgt d c) d s t) r' false)
/-- A landing to come: the device's place at its receive semaphore, and what it may expect there. -/
def coming (c : Dev nD) (d : Bool) (s : Fin 2) (t : Fin 4) (r : ℕ) (i : ℕ) : sProp 𝕄 :=
  iprop(cred (tallyAt (cameCell c d s t) i N) ∗ atPos ER (cameCell c d s t) r ∅ 0)
/-- The tile a landing left, and the place after it. -/
def arrived (c : Dev nD) (d : Bool) (s : Fin 2) (t : Fin 4) (r : ℕ) : sProp 𝕄 :=
  iprop(room c d s t r ∗ atPos ER (cameCell c d s t) r ∅ 0 ∗ met (frm d c))

theorem rSlot_amount (d : Bool) (s : Fin 2) (t : Fin 4) (q : DmaSem sig) : (rSlot d s t).view.amount (.dma q) = N := by
  cases d <;> rfl

theorem sendS_ok (c : Dev nD) (d : Bool) (k : Fin 3) (s : Fin 2) (t : Fin 4) (n : Dev nD) (hn : n = tgt d c)
    (r r' i : ℕ) (hr : r < 4) (hr' : r' < (if s = 1 then 1 else 2)) (X : Vec F S1024x1024 .f32)
    (hX : X = partSum m d t (hopOf s r') c) (l : List (Pay nD τ sig)) (Q : PUnit → sProp 𝕄) :
    invs m K ⊢ iprop(met c -∗ has c (sSlot d k) X -∗ (atPos ER (sentCell c d k) r ∅ 0 ∗ reached ER (sentCell c d k) r)
      -∗ pass c d k r s t r' -∗ room (tgt d c) d s t r' -∗ owing c (sendPay c d s t i :: l)
      -∗ ((slotBusy c d k r ∗ owing c l) -∗ Q ⟨⟩) -∗ run c (sendS F d k s t n) Q) := by
  subst hn
  unfold pass room hasAny has owns owing run sendS Prog.lift
  iintro #HI #Hm ⟨%fs, %hfs, Hs⟩ ⟨Hat, #Hre⟩ ⟨Ht, Ht'⟩ ⟨⟨%Y, %fd, %hfd, Hd⟩, #Hre'⟩ ⟨%W, HO⟩ Hk
  iapply (Rounds.wp_send_pointsTo_with 𝒱₀ ER (ringRd m) (c : Thread nD τ) none (κ₁ := K (c, iSent d k)) (κ₂ := K (tgt d c, iCame d s t))
    (r₁ := r) (r₂ := r') (d₁ := false) (d₂ := false) (fs := fs) (fd := fd) (F := met c)
    (by rw [duties_sent m c d k hr]; exact Finset.mem_singleton_self _)
    (by rw [duties_came m (tgt d c) d s t hr']; exact Finset.mem_singleton_self _)
    i 0 N (rSlot_amount d s t _) (amount_sent m c d k r false) (amount_came m (tgt d c) d s t r' false) (tallyL l)
    (add_comm _ _) (W := W)
    (by rw [payload_sent]; unfold hasAny has; iintro H; iexists _; iapply (owns_intro (c : Thread nD τ) (sSlot d k)); iexact H)
    (by
      rw [payload_came]; unfold landed; rw [frm_to, ← hX]; unfold has owns
      iintro ⟨H, Hm⟩
      isplitl [H]
      · iexists _; isplitr
        · ipureintro; exact (View.read_write_univ fd _).trans hfs
        · iexact H
      iexact Hm)) $$ [Hs Hd HO Ht Ht']
  · isplitr; · iapply (invs_sent m K c d k); iexact HI
    isplitr; · iapply (invs_came m K (tgt d c) d s t); iexact HI
    isplitl [Hs]; · iexact Hs
    isplitl [Hd]
    · isplitl [Hd]; · iexact Hd
      iexact Hm
    isplitl [HO]; · iexact HO
    isplitl [Ht]; · iexact Ht
    isplitr; · iexact Hre
    isplitl [Ht']; · iexact Ht'
    iexact Hre'
  iintro ⟨Hc, HO⟩
  rw [wp_ret]; imodintro
  iapply Hk
  unfold slotBusy
  isplitl [Hc Hat]
  · isplitl [Hc]; · iexact Hc
    iexact Hat
  iexists W; iexact HO

theorem waitSent_ok (c : Dev nD) (d : Bool) (k : Fin 3) (s : Fin 2) (t : Fin 4) (r : ℕ) (hr : r < 4)
    {l : List (Pay nD τ sig)} (hl : Over 0 l) (Q : PUnit → sProp 𝕄) :
    invs m K ⊢ iprop(levAts Lv lv -∗ slotBusy c d k r -∗ owing c l
      -∗ ((slotFree c d k (r + 1) ∗ owing c l) -∗ Q ⟨⟩) -∗ run c (waitSent F d k s t) Q) := by
  unfold slotBusy owing run waitSent Prog.lift
  iintro #HI #Hlev ⟨Hc, Hat⟩ ⟨%W, HO⟩ Hk
  iapply (Rounds.wp_wait_rest_token 𝒱₀ ER (ringRd m) (c : Thread nD τ) none (κ := K (c, iSent d k))
      (wpE_waitDma2_eq 𝒱₀ (c : Thread nD τ) none Set.univ) (Set.mem_univ _) 0 (O := tallyL l) (W := W) (R := r) (m := 0) (T := ∅)
      (by rw [Nat.zero_add, expect_sent m c d k hr])) $$ [Hc HO Hat]
  · isplitr; · iapply (invs_sent m K c d k); iexact HI
    isplitl [Hc]; · iexact Hc
    isplitl [HO]; · iexact HO
    isplitr; · iapply (mayWait c _ (by decide) hl); iexact Hlev
    iexact Hat
  iintro ⟨HO, Hat, #Hre, Hpay⟩
  ihave Hp := (Entails.of_eq (rest_sent m c d k hr)) $$ Hpay
  rw [wp_ret]; imodintro
  iapply Hk
  unfold slotFree
  isplitl [Hp Hat]
  · isplitl [Hp]; · iexact Hp
    isplitl [Hat]; · iexact Hat
    iexact Hre
  iexists _; iexact HO

theorem waitCame_ok (c : Dev nD) (d : Bool) (k : Fin 3) (s : Fin 2) (t : Fin 4) (r i : ℕ) (hr : r < (if s = 1 then 1 else 2))
    (hi : i < 7) {l : List (Pay nD τ sig)} (hl : Over i l) (Q : PUnit → sProp 𝕄) :
    invs m K ⊢ iprop(levAts Lv lv -∗ coming c d s t r i -∗ owing c l
      -∗ ((landed c d s t (partSum m d t (hopOf s r) (frm d c)) ∗ atPos ER (cameCell c d s t) (r + 1) ∅ 0
          ∗ reached ER (cameCell c d s t) (r + 1) ∗ owing c l) -∗ Q ⟨⟩)
      -∗ run c (waitCame F d k s t) Q) := by
  unfold coming owing run waitCame Prog.lift
  iintro #HI #Hlev ⟨Hc, Hat⟩ ⟨%W, HO⟩ Hk
  iapply (Rounds.wp_wait_rest_token 𝒱₀ ER (ringRd m) (c : Thread nD τ) none (κ := K (c, iCame d s t))
      (wpE_waitDma2_eq 𝒱₀ (c : Thread nD τ) none Set.univ) (Set.mem_univ _) i (O := tallyL l) (W := W) (R := r) (m := 0) (T := ∅)
      (by rw [Nat.zero_add, expect_came m c d s t hr])) $$ [Hc HO Hat]
  · isplitr; · iapply (invs_came m K c d s t); iexact HI
    isplitl [Hc]; · iexact Hc
    isplitl [HO]; · iexact HO
    isplitr; · iapply (mayWait c _ hi hl); iexact Hlev
    iexact Hat
  iintro ⟨HO, Hat, Hre, Hpay⟩
  ihave Hp := (Entails.of_eq (rest_came m c d s t hr)) $$ Hpay
  rw [wp_ret]; imodintro
  iapply Hk
  isplitl [Hp]; · iexact Hp
  isplitl [Hat]; · iexact Hat
  isplitl [Hre]; · iexact Hre
  iexists _; iexact HO

/-! ## The handshake -/

/-- The right to raise a neighbour's barrier at round `r`, for ring `d` there. -/
def raise (c : Dev nD) (d : Bool) (r : ℕ) : sProp 𝕄 :=
  iprop(dutyTok ER (barCell (frm d c)) r d ∗ reached ER (barCell (frm d c)) r)
/-- A round of a device's own barrier to come. -/
def awaited (c : Dev nD) (r i : ℕ) : sProp 𝕄 := iprop(cred (tallyAt (barCell c) i 2) ∗ atPos ER (barCell c) r ∅ 0)

/-- The signal to one neighbour. -/
theorem signal_ok (c n : Dev nD) (d : Bool) (r i : ℕ) (hn : n = frm d c) (hr : r < 2) (l : List (Pay nD τ sig)) (Q : PUnit → sProp 𝕄) :
    invs m K ⊢ iprop(raise c d r -∗ (ringRd m).payload (barCell (frm d c)) r d -∗ owing c ((barCell (frm d c), i, 1) :: l)
      -∗ (owing c l -∗ Q ⟨⟩) -∗ run c (semSignalWord n barS 1#32 : KProg F PUnit) Q) := by
  subst hn
  unfold raise owing run semSignalWord
  iintro #HI ⟨Ht, #Hre⟩ Hp ⟨%W, HO⟩ Hk
  iapply (Rounds.wp_signal 𝒱₀ ER (ringRd m) (c : Thread nD τ) none (dst := (frm d c : Thread nD τ)) (κ := K (frm d c, iBar))
      (r := r) (d := d) (by rw [duties_bar m _ hr]; exact Finset.mem_univ _) ((amount_bar m (frm d c) r d).trans (by decide)) i (tallyL l)
      (add_comm _ _)) $$ [HO Ht Hp]
  · isplitr; · iapply (invs_bar m K (frm d c)); iexact HI
    isplitl [HO]; · iexact HO
    isplitl [Ht]; · iexact Ht
    isplitl [Hp]; · iexact Hp
    iexact Hre
  iintro HO
  rw [wp_ret]; imodintro
  iapply Hk; iexists W; iexact HO

theorem waitBar_ok (c : Dev nD) (r i : ℕ) (hr : r < 2) (hi : i < 7) {l : List (Pay nD τ sig)} (hl : Over i l) (Q : PUnit → sProp 𝕄) :
    invs m K ⊢ iprop(levAts Lv lv -∗ awaited c r i -∗ owing c l
      -∗ ((atPos ER (barCell c) (r + 1) ∅ 0 ∗ reached ER (barCell c) (r + 1)
          ∗ bigSep ((ringRd m).duties (barCell c) r \ ∅) (fun b => (ringRd m).payload (barCell c) r b) ∗ owing c l) -∗ Q ⟨⟩)
      -∗ run c (semWaitWord barS 2#32 : KProg F PUnit) Q) := by
  unfold awaited owing run semWaitWord
  iintro #HI #Hlev ⟨Hc, Hat⟩ ⟨%W, HO⟩ Hk
  iapply (Rounds.wp_wait_rest_token 𝒱₀ ER (ringRd m) (c : Thread nD τ) none (κ := K (c, iBar))
      (wpE_semWait_eq 𝒱₀ (c : Thread nD τ) none Set.univ) (Set.mem_univ _) i (O := tallyL l) (W := W) (R := r) (m := 0) (T := ∅)
      (by rw [expect_bar m c hr]; decide)) $$ [Hc HO Hat]
  · isplitr; · iapply (invs_bar m K c); iexact HI
    isplitl [Hc]; · iexact Hc
    isplitl [HO]; · iexact HO
    isplitr; · iapply (mayWait c _ hi hl); iexact Hlev
    iexact Hat
  iintro ⟨HO, Hat, Hre, Hpay⟩
  rw [wp_ret]; imodintro
  iapply Hk
  isplitl [Hat]; · iexact Hat
  isplitl [Hre]; · iexact Hre
  isplitl [Hpay]; · iexact Hpay
  iexists _; iexact HO

end Cert.RingProof
end
-- ==== Proof.Tiles.lean ====
/-
# One tile at a time

The body is a row of tiles; here is what each kind of tile needs and leaves. The copies of `x` and `w` take a block out of
the whole operand and put it back when they are done.
-/
module

public import proofs.«01_k».proof.Proof.Steps

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites Idealize.ShloMosaic.Transfers

variable {F : FTy → Type} [FloatOps F]

local notation "𝕄" => MT nD τ sig ℕ (Elt F) ℕ UU ℕ

variable (m : (ℓ : Loc nD τ sig) → Buf (Elt F) ℓ) (K : Dev nD × Fin 23 → ℕ)

/-! ## The two operands, whole but for the block being copied -/

/-- All of a device's `x`, and of its `w`. -/
def xAll (c : Dev nD) : sProp 𝕄 := (xM : Memref sig .tc .hbm S4096x1024 .f32).view.loc (c : Thread nD τ)
  ↦[(xM : Memref sig .tc .hbm S4096x1024 .f32).view.set]{fullShare} (xv m c)
def wAll (c : Dev nD) : sProp 𝕄 := (wM : Memref sig .tc .hbm S1024x8192 .f32).view.loc (c : Thread nD τ)
  ↦[(wM : Memref sig .tc .hbm S1024x8192 .f32).view.set]{fullShare} (wv m c)

theorem xAll_take (c : Dev nD) (off : Fin 2 → ℕ) (h : ∀ a, off a + S1024x1024.size a ≤ S4096x1024.size a) :
    (xAll m c : sProp 𝕄) ⊢ iprop(has c (xRows off h) (xrows m c off h) ∗ (has c (xRows off h) (xrows m c off h) -∗ xAll m c)) := by
  have e : (has c (xRows off h) (xrows m c off h) : sProp 𝕄) = _ := owns_slice_read (c : Thread nD τ)
    (xM : Memref sig .tc .hbm S4096x1024 .f32) fullShare (Rect.unit (s := S4096x1024) off S1024x1024.size h) (fun _ => rfl) (xv m c)
  rw [e]; unfold xAll
  iintro H
  ihave H' := (pointsTo_split_subset (View.set_slice_subset (xM : Memref sig .tc .hbm S4096x1024 .f32).view
    (Rect.unit (s := S4096x1024) off S1024x1024.size h))).1 $$ H
  icases H' with ⟨Hs, Hr⟩
  isplitl [Hs]; · iexact Hs
  iintro Hs
  iapply (pointsTo_split_subset (View.set_slice_subset (xM : Memref sig .tc .hbm S4096x1024 .f32).view
    (Rect.unit (s := S4096x1024) off S1024x1024.size h))).2
  isplitl [Hs]; · iexact Hs
  iexact Hr

theorem wAll_take (c : Dev nD) (j : Fin 8) :
    (wAll m c : sProp 𝕄) ⊢ iprop(has c (wTile j) (wtile m c j) ∗ (has c (wTile j) (wtile m c j) -∗ wAll m c)) := by
  have e : (has c (wTile j) (wtile m c j) : sProp 𝕄) = _ := owns_slice_read (c : Thread nD τ)
    (wM : Memref sig .tc .hbm S1024x8192 .f32) fullShare (Rect.unit (s := S1024x8192) ![0, 1024 * j.val] S1024x1024.size (wInb j))
    (fun _ => rfl) (wv m c)
  rw [e]; unfold wAll
  iintro H
  ihave H' := (pointsTo_split_subset (View.set_slice_subset (wM : Memref sig .tc .hbm S1024x8192 .f32).view
    (Rect.unit (s := S1024x8192) ![0, 1024 * j.val] S1024x1024.size (wInb j)))).1 $$ H
  icases H' with ⟨Hs, Hr⟩
  isplitl [Hs]; · iexact Hs
  iintro Hs
  iapply (pointsTo_split_subset (View.set_slice_subset (wM : Memref sig .tc .hbm S1024x8192 .f32).view
    (Rect.unit (s := S1024x8192) ![0, 1024 * j.val] S1024x1024.size (wInb j)))).2
  isplitl [Hs]; · iexact Hs
  iexact Hr

/-! ## The copies of the operands -/

/-- `x` and its copies' semaphore at rest. -/
def xTools (c : Dev nD) : sProp 𝕄 := iprop(xAll m c ∗ idle c xD)
/-- A copy of rows of `x` on the way, to leave block `R` in the ring's row buffer. -/
def xFly (c : Dev nD) (d : Bool) (off : Fin 2 → ℕ) (h : ∀ a, off a + S1024x1024.size a ≤ S4096x1024.size a) : sProp 𝕄 :=
  iprop(fly c xD (xRows off h) (xT d) (xrows m c off h) ∗ (has c (xRows off h) (xrows m c off h) -∗ xAll m c))
/-- `w`, its copies' semaphore and the tile buffer at rest. -/
def wTools (c : Dev nD) : sProp 𝕄 := iprop(wAll m c ∗ idle c wD ∗ hasAny c wT)
def wFly (c : Dev nD) (j : Fin 8) : sProp 𝕄 :=
  iprop(fly c wD (wTile j) wT (wtile m c j) ∗ (has c (wTile j) (wtile m c j) -∗ wAll m c))
/-- Tile `j` of `w` there. -/
def wHere (c : Dev nD) (j : Fin 8) : sProp 𝕄 := iprop(wAll m c ∗ idle c wD ∗ has c wT (wtile m c j))
/-- The buffer for received tiles, and its copies' semaphore, at rest. -/
def rTools (c : Dev nD) : sProp 𝕄 := iprop(idle c rD ∗ hasAny c vB)

theorem wHere_tools (c : Dev nD) (j : Fin 8) : (wHere m c j : sProp 𝕄) ⊢ wTools m c := by
  unfold wHere wTools
  iintro ⟨Ha, Hi, Hw⟩
  isplitl [Ha]; · iexact Ha
  isplitl [Hi]; · iexact Hi
  iapply (has_any c wT _); iexact Hw

theorem startX_ok (c : Dev nD) (d : Bool) (off : Fin 2 → ℕ) (h : ∀ a, off a + S1024x1024.size a ≤ S4096x1024.size a)
    (Q : PUnit → sProp 𝕄) :
    xTools m c ⊢ iprop(hasAny c (xT d) -∗ (xFly m c d off h -∗ Q ⟨⟩) -∗ run c (startX F d off h) Q) := by
  unfold xTools
  iintro ⟨Hx, Hi⟩ Hb Hk
  ihave H := (xAll_take m c off h) $$ Hx
  icases H with ⟨Hs, Hback⟩
  unfold startX
  iapply (start_ok c xD (xRows off h) (xT d) (xrows m c off h) (by cases d <;> rfl)) $$ Hs Hb Hi
  iintro Hf
  iapply Hk; unfold xFly
  isplitl [Hf]; · iexact Hf
  iexact Hback

theorem waitX_ok (c : Dev nD) (d : Bool) (off : Fin 2 → ℕ) (h : ∀ a, off a + S1024x1024.size a ≤ S4096x1024.size a)
    (R : Fin 4) (hR : off = ![1024 * R.val, 0]) {l : List (Pay nD τ sig)} (hl : Over 0 l) (Q : PUnit → sProp 𝕄) :
    (levAts Lv lv : sProp 𝕄) ⊢ iprop(xFly m c d off h -∗ owing c l
      -∗ ((xTools m c ∗ has c (xT d) (xblk m c R) ∗ owing c l) -∗ Q ⟨⟩) -∗ run c (waitX F d off h) Q) := by
  unfold xFly
  iintro Hlev ⟨Hf, Hback⟩ HO Hk
  unfold waitX
  iapply (wait_ok c xD (xRows off h) (xT d) (xrows m c off h) (by cases d <;> rfl) hl) $$ Hlev Hf HO
  iintro ⟨Hs, Hb, Hi, HO⟩
  iapply Hk; unfold xTools
  rw [xrows_eq m c R off h hR]
  isplitl [Hs Hback Hi]
  · isplitl [Hs Hback]
    · iapply Hback; iexact Hs
    iexact Hi
  isplitl [Hb]; · iexact Hb
  iexact HO

theorem startW_ok (c : Dev nD) (j : Fin 8) (Q : PUnit → sProp 𝕄) :
    wTools m c ⊢ iprop((wFly m c j -∗ Q ⟨⟩) -∗ run c (startW F j) Q) := by
  unfold wTools
  iintro ⟨Hx, Hi, Hb⟩ Hk
  ihave H := (wAll_take m c j) $$ Hx
  icases H with ⟨Hs, Hback⟩
  unfold startW
  iapply (start_ok c wD (wTile j) wT (wtile m c j) rfl) $$ Hs Hb Hi
  iintro Hf
  iapply Hk; unfold wFly
  isplitl [Hf]; · iexact Hf
  iexact Hback

theorem waitW_ok (c : Dev nD) (j : Fin 8) {l : List (Pay nD τ sig)} (hl : Over 0 l) (Q : PUnit → sProp 𝕄) :
    (levAts Lv lv : sProp 𝕄) ⊢ iprop(wFly m c j -∗ owing c l -∗ ((wHere m c j ∗ owing c l) -∗ Q ⟨⟩) -∗ run c (waitW F j) Q) := by
  unfold wFly
  iintro Hlev ⟨Hf, Hback⟩ HO Hk
  unfold waitW
  iapply (wait_ok c wD (wTile j) wT (wtile m c j) rfl hl) $$ Hlev Hf HO
  iintro ⟨Hs, Hb, Hi, HO⟩
  iapply Hk; unfold wHere
  isplitl [Hs Hback Hi Hb]
  · isplitl [Hs Hback]
    · iapply Hback; iexact Hs
    isplitl [Hi]; · iexact Hi
    iexact Hb
  iexact HO

/-! ## Filling a send slot and sending it -/

theorem put0_ok (c : Dev nD) (d : Bool) (k : Fin 3) (s : Fin 2) (t : Fin 4) (n : Dev nD) (hn : n = tgt d c)
    (r r' i : ℕ) (hr : r < 4) (hr' : r' < (if s = 1 then 1 else 2)) (X : Vec F S1024x1024 .f32) (j : Fin 8)
    (hX : dot X (wtile m c j) = partSum m d t (hopOf s r') c) (l : List (Pay nD τ sig)) (Q : PUnit → sProp 𝕄) :
    invs m K ⊢ iprop(met c -∗ has c (xT d) X -∗ wHere m c j -∗ slotFree c d k r -∗ pass c d k r s t r' -∗ room (tgt d c) d s t r'
      -∗ owing c (sendPay c d s t i :: l)
      -∗ ((wTools m c ∗ has c (xT d) X ∗ slotBusy c d k r ∗ owing c l) -∗ Q ⟨⟩) -∗ run c (put0 d k s t n) Q) := by
  unfold put0 slotFree wHere
  simp only [run_bind]
  iintro #HI #Hm Hx ⟨Hwa, Hwi, Hw⟩ ⟨Hs, Hat⟩ Hp Hr HO Hk
  iapply (loadT_ok c (xT d) X) $$ Hx; iintro Hx
  iapply (loadT_ok c wT (wtile m c j)) $$ Hw; iintro Hw
  iapply (loadS_ok c d k) $$ Hs; iintro %v Hs
  iapply (storeS_ok c d k (dot X (wtile m c j))) $$ Hs; iintro Hs
  iapply (sendS_ok m K c d k s t n hn r r' i hr hr' _ hX l) $$ HI Hm Hs Hat Hp Hr HO
  iintro ⟨Hb, HO⟩
  iapply Hk
  isplitl [Hwa Hwi Hw]
  · iapply (wHere_tools m c j); unfold wHere
    isplitl [Hwa]; · iexact Hwa
    isplitl [Hwi]; · iexact Hwi
    iexact Hw
  isplitl [Hx]; · iexact Hx
  isplitl [Hb]; · iexact Hb
  iexact HO

theorem put1_ok (c : Dev nD) (d : Bool) (k : Fin 3) (s : Fin 2) (t : Fin 4) (n : Dev nD) (hn : n = tgt d c)
    (r r' i : ℕ) (hr : r < 4) (hr' : r' < (if s = 1 then 1 else 2)) (X V : Vec F S1024x1024 .f32) (j : Fin 8)
    (hX : addf (dot X (wtile m c j)) V = partSum m d t (hopOf s r') c) (l : List (Pay nD τ sig)) (Q : PUnit → sProp 𝕄) :
    invs m K ⊢ iprop(met c -∗ has c (xT d) X -∗ wHere m c j -∗ has c vB V -∗ slotFree c d k r -∗ pass c d k r s t r'
      -∗ room (tgt d c) d s t r' -∗ owing c (sendPay c d s t i :: l)
      -∗ ((wTools m c ∗ has c (xT d) X ∗ hasAny c vB ∗ slotBusy c d k r ∗ owing c l) -∗ Q ⟨⟩) -∗ run c (put1 d k s t n) Q) := by
  unfold put1 slotFree wHere
  simp only [run_bind]
  iintro #HI #Hm Hx ⟨Hwa, Hwi, Hw⟩ Hv ⟨Hs, Hat⟩ Hp Hr HO Hk
  iapply (loadT_ok c (xT d) X) $$ Hx; iintro Hx
  iapply (loadT_ok c wT (wtile m c j)) $$ Hw; iintro Hw
  iapply (loadT_ok c vB V) $$ Hv; iintro Hv
  iapply (loadS_ok c d k) $$ Hs; iintro %v Hs
  iapply (storeS_ok c d k (addf (dot X (wtile m c j)) V)) $$ Hs; iintro Hs
  iapply (sendS_ok m K c d k s t n hn r r' i hr hr' _ hX l) $$ HI Hm Hs Hat Hp Hr HO
  iintro ⟨Hb, HO⟩
  iapply Hk
  isplitl [Hwa Hwi Hw]
  · iapply (wHere_tools m c j); unfold wHere
    isplitl [Hwa]; · iexact Hwa
    isplitl [Hwi]; · iexact Hwi
    iexact Hw
  isplitl [Hx]; · iexact Hx
  isplitl [Hv]; · iapply (has_any c vB V); iexact Hv
  isplitl [Hb]; · iexact Hb
  iexact HO

/-! ## The tiles -/

theorem tileB_ok (c : Dev nD) (d : Bool) (j : Fin 8) (k : Fin 3) (s : Fin 2) (t : Fin 4) (n : Dev nD) (hn : n = tgt d c)
    (r r' i : ℕ) (hr : r < 4) (hr' : r' < (if s = 1 then 1 else 2)) (X : Vec F S1024x1024 .f32)
    (hX : dot X (wtile m c j) = partSum m d t (hopOf s r') c) (l : List (Pay nD τ sig)) (hl : Over 0 (sendPay c d s t i :: l))
    (Q : PUnit → sProp 𝕄) :
    invs m K ⊢ iprop(levAts Lv lv -∗ met c -∗ wTools m c -∗ has c (xT d) X -∗ slotFree c d k r -∗ pass c d k r s t r'
      -∗ room (tgt d c) d s t r' -∗ owing c (sendPay c d s t i :: l)
      -∗ ((wTools m c ∗ has c (xT d) X ∗ slotBusy c d k r ∗ owing c l) -∗ Q ⟨⟩) -∗ run c (tileB d j k s t n) Q) := by
  unfold tileB
  simp only [run_bind]
  iintro #HI #Hlev #Hm Hw Hx Hs Hp Hr HO Hk
  iapply (startW_ok m c j) $$ Hw; iintro Hw
  iapply (waitW_ok m c j hl) $$ Hlev Hw HO; iintro ⟨Hw, HO⟩
  iapply (put0_ok m K c d k s t n hn r r' i hr hr' X j hX l) $$ HI Hm Hx Hw Hs Hp Hr HO
  iexact Hk

theorem tileA_ok (c : Dev nD) (d : Bool) (off : Fin 2 → ℕ) (h : ∀ a, off a + S1024x1024.size a ≤ S4096x1024.size a)
    (R : Fin 4) (hR : off = ![1024 * R.val, 0]) (j : Fin 8) (k : Fin 3) (s : Fin 2) (t : Fin 4) (n : Dev nD) (hn : n = tgt d c)
    (r r' i : ℕ) (hr : r < 4) (hr' : r' < (if s = 1 then 1 else 2))
    (hX : dot (xblk m c R) (wtile m c j) = partSum m d t (hopOf s r') c) (l : List (Pay nD τ sig))
    (hl : Over 0 (sendPay c d s t i :: l)) (Q : PUnit → sProp 𝕄) :
    invs m K ⊢ iprop(levAts Lv lv -∗ met c -∗ wTools m c -∗ xTools m c -∗ hasAny c (xT d) -∗ slotFree c d k r -∗ pass c d k r s t r'
      -∗ room (tgt d c) d s t r' -∗ owing c (sendPay c d s t i :: l)
      -∗ ((xTools m c ∗ wTools m c ∗ has c (xT d) (xblk m c R) ∗ slotBusy c d k r ∗ owing c l) -∗ Q ⟨⟩)
      -∗ run c (tileA d off h j k s t n) Q) := by
  unfold tileA
  simp only [run_bind]
  iintro #HI #Hlev #Hm Hw Hxa Hx Hs Hp Hr HO Hk
  iapply (startX_ok m c d off h) $$ Hxa Hx; iintro Hx
  iapply (startW_ok m c j) $$ Hw; iintro Hw
  iapply (waitX_ok m c d off h R hR hl) $$ Hlev Hx HO; iintro ⟨Hxa, Hx, HO⟩
  iapply (waitW_ok m c j hl) $$ Hlev Hw HO; iintro ⟨Hw, HO⟩
  iapply (put0_ok m K c d k s t n hn r r' i hr hr' _ j hX l) $$ HI Hm Hx Hw Hs Hp Hr HO
  iintro H
  iapply Hk
  isplitl [Hxa]; · iexact Hxa
  iexact H

theorem tileC_ok (c : Dev nD) (d : Bool) (j : Fin 8) (k : Fin 3) (s' : Fin 2) (t' : Fin 4) (s : Fin 2) (t : Fin 4) (n : Dev nD)
    (hn : n = tgt d c) (r r' i : ℕ) (hr : r + 1 < 4) (hr' : r' < (if s = 1 then 1 else 2)) (X : Vec F S1024x1024 .f32)
    (hX : dot X (wtile m c j) = partSum m d t (hopOf s r') c) (l : List (Pay nD τ sig)) (hl : Over 0 (sendPay c d s t i :: l))
    (Q : PUnit → sProp 𝕄) :
    invs m K ⊢ iprop(levAts Lv lv -∗ met c -∗ wTools m c -∗ has c (xT d) X -∗ slotBusy c d k r -∗ pass c d k (r + 1) s t r'
      -∗ room (tgt d c) d s t r' -∗ owing c (sendPay c d s t i :: l)
      -∗ ((wTools m c ∗ has c (xT d) X ∗ slotBusy c d k (r + 1) ∗ owing c l) -∗ Q ⟨⟩) -∗ run c (tileC d j k s' t' s t n) Q) := by
  unfold tileC
  simp only [run_bind]
  iintro #HI #Hlev #Hm Hw Hx Hs Hp Hr HO Hk
  iapply (startW_ok m c j) $$ Hw; iintro Hw
  iapply (waitSent_ok m K c d k s' t' r (by omega) hl) $$ HI Hlev Hs HO; iintro ⟨Hs, HO⟩
  iapply (waitW_ok m c j hl) $$ Hlev Hw HO; iintro ⟨Hw, HO⟩
  iapply (put0_ok m K c d k s t n hn (r + 1) r' i hr hr' X j hX l) $$ HI Hm Hx Hw Hs Hp Hr HO
  iexact Hk

theorem waitR_ok (c : Dev nD) (d : Bool) (s : Fin 2) (t : Fin 4) (V : Vec F S1024x1024 .f32) {l : List (Pay nD τ sig)} (hl : Over 0 l)
    (Q : PUnit → sProp 𝕄) :
    (levAts Lv lv : sProp 𝕄) ⊢ iprop(fly c rD (rSlot d s t) vB V -∗ owing c l
      -∗ ((hasAny c (rSlot d s t) ∗ has c vB V ∗ idle c rD ∗ owing c l) -∗ Q ⟨⟩) -∗ run c (waitR F d s t) Q) := by
  iintro Hlev Hf HO Hk
  unfold waitR
  iapply (wait_ok c rD (rSlot d s t) vB V rfl hl) $$ Hlev Hf HO
  iintro ⟨Ha, Hb, Hi, HO⟩
  iapply Hk
  isplitl [Ha]; · iapply (has_any c (rSlot d s t) V); iexact Ha
  isplitl [Hb]; · iexact Hb
  isplitl [Hi]; · iexact Hi
  iexact HO

theorem tileE_ok (c : Dev nD) (d : Bool) (j : Fin 8) (k : Fin 3) (s' : Fin 2) (t' : Fin 4) (k' : Fin 3) (sr s : Fin 2) (t : Fin 4)
    (n : Dev nD) (hn : n = tgt d c) (r r' rr i ir : ℕ) (hr : r + 1 < 4) (hr' : r' < (if s = 1 then 1 else 2))
    (hrr : rr < (if sr = 1 then 1 else 2)) (hir : ir < 7) (X : Vec F S1024x1024 .f32)
    (hX : addf (dot X (wtile m c j)) (partSum m d t (hopOf sr rr) (frm d c)) = partSum m d t (hopOf s r') c)
    (l : List (Pay nD τ sig)) (hl : Over ir (sendPay c d s t i :: l)) (Q : PUnit → sProp 𝕄) :
    invs m K ⊢ iprop(levAts Lv lv -∗ met c -∗ wTools m c -∗ rTools c -∗ has c (xT d) X -∗ slotBusy c d k r -∗ coming c d sr t rr ir
      -∗ pass c d k (r + 1) s t r' -∗ room (tgt d c) d s t r' -∗ owing c (sendPay c d s t i :: l)
      -∗ ((wTools m c ∗ rTools c ∗ has c (xT d) X ∗ slotBusy c d k (r + 1) ∗ arrived c d sr t (rr + 1) ∗ owing c l) -∗ Q ⟨⟩)
      -∗ run c (tileE d j k s' t' k' sr s t n) Q) := by
  have h0 : Over 0 (sendPay c d s t i :: l) := hl.le (Nat.zero_le _)
  unfold tileE
  simp only [run_bind]
  iintro #HI #Hlev #Hm Hw Hrt Hx Hs Hc Hp Hr HO Hk
  iapply (startW_ok m c j) $$ Hw; iintro Hw
  iapply (waitSent_ok m K c d k s' t' r (by omega) h0) $$ HI Hlev Hs HO; iintro ⟨Hs, HO⟩
  unfold rTools
  icases Hrt with ⟨Hi, Hb⟩
  iapply (waitCame_ok m K c d k' sr t rr ir hrr hir hl) $$ HI Hlev Hc HO; iintro ⟨Hv, Hat, Hre, HO⟩
  unfold landed
  icases Hv with ⟨Hv, Hmet⟩
  unfold startR
  iapply (start_ok c rD (rSlot d sr t) vB _ rfl) $$ Hv Hb Hi; iintro Hf
  iapply (waitW_ok m c j h0) $$ Hlev Hw HO; iintro ⟨Hw, HO⟩
  iapply (waitR_ok c d sr t _ h0) $$ Hlev Hf HO; iintro ⟨Ha, Hv, Hi, HO⟩
  iapply (put1_ok m K c d k s t n hn (r + 1) r' i hr hr' X _ j hX l) $$ HI Hm Hx Hw Hv Hs Hp Hr HO
  iintro ⟨Hw, Hx, Hv, Hs, HO⟩
  iapply Hk
  isplitl [Hw]; · iexact Hw
  isplitl [Hi Hv]
  · isplitl [Hi]; · iexact Hi
    iexact Hv
  isplitl [Hx]; · iexact Hx
  isplitl [Hs]; · iexact Hs
  isplitl [Ha Hat Hre Hmet]
  · unfold arrived room
    isplitl [Ha Hre]
    · isplitl [Ha]; · iexact Ha
      iexact Hre
    isplitl [Hat]; · iexact Hat
    iexact Hmet
  iexact HO

theorem tileD_ok (c : Dev nD) (d : Bool) (off : Fin 2 → ℕ) (h : ∀ a, off a + S1024x1024.size a ≤ S4096x1024.size a)
    (R : Fin 4) (hR : off = ![1024 * R.val, 0]) (j : Fin 8) (k : Fin 3) (s' : Fin 2) (t' : Fin 4) (k' : Fin 3) (sr s : Fin 2) (t : Fin 4)
    (n : Dev nD) (hn : n = tgt d c) (r r' rr i ir : ℕ) (hr : r + 1 < 4) (hr' : r' < (if s = 1 then 1 else 2))
    (hrr : rr < (if sr = 1 then 1 else 2)) (hir : ir < 7)
    (hX : addf (dot (xblk m c R) (wtile m c j)) (partSum m d t (hopOf sr rr) (frm d c)) = partSum m d t (hopOf s r') c)
    (l : List (Pay nD τ sig)) (hl : Over ir (sendPay c d s t i :: l)) (Q : PUnit → sProp 𝕄) :
    invs m K ⊢ iprop(levAts Lv lv -∗ met c -∗ wTools m c -∗ rTools c -∗ xTools m c -∗ hasAny c (xT d) -∗ slotBusy c d k r
      -∗ coming c d sr t rr ir -∗ pass c d k (r + 1) s t r' -∗ room (tgt d c) d s t r' -∗ owing c (sendPay c d s t i :: l)
      -∗ ((xTools m c ∗ wTools m c ∗ rTools c ∗ has c (xT d) (xblk m c R) ∗ slotBusy c d k (r + 1) ∗ arrived c d sr t (rr + 1)
          ∗ owing c l) -∗ Q ⟨⟩)
      -∗ run c (tileD d off h j k s' t' k' sr s t n) Q) := by
  have h0 : Over 0 (sendPay c d s t i :: l) := hl.le (Nat.zero_le _)
  unfold tileD
  simp only [run_bind]
  iintro #HI #Hlev #Hm Hw Hrt Hxa Hx Hs Hc Hp Hr HO Hk
  iapply (startX_ok m c d off h) $$ Hxa Hx; iintro Hx
  iapply (startW_ok m c j) $$ Hw; iintro Hw
  iapply (waitSent_ok m K c d k s' t' r (by omega) h0) $$ HI Hlev Hs HO; iintro ⟨Hs, HO⟩
  unfold rTools
  icases Hrt with ⟨Hi, Hb⟩
  iapply (waitCame_ok m K c d k' sr t rr ir hrr hir hl) $$ HI Hlev Hc HO; iintro ⟨Hv, Hat, Hre, HO⟩
  unfold landed
  icases Hv with ⟨Hv, Hmet⟩
  unfold startR
  iapply (start_ok c rD (rSlot d sr t) vB _ rfl) $$ Hv Hb Hi; iintro Hf
  iapply (waitX_ok m c d off h R hR h0) $$ Hlev Hx HO; iintro ⟨Hxa, Hx, HO⟩
  iapply (waitW_ok m c j h0) $$ Hlev Hw HO; iintro ⟨Hw, HO⟩
  iapply (waitR_ok c d sr t _ h0) $$ Hlev Hf HO; iintro ⟨Ha, Hv, Hi, HO⟩
  iapply (put1_ok m K c d k s t n hn (r + 1) r' i hr hr' _ _ j hX l) $$ HI Hm Hx Hw Hv Hs Hp Hr HO
  iintro ⟨Hw, Hx, Hv, Hs, HO⟩
  iapply Hk
  isplitl [Hxa]; · iexact Hxa
  isplitl [Hw]; · iexact Hw
  isplitl [Hi Hv]
  · isplitl [Hi]; · iexact Hi
    iexact Hv
  isplitl [Hx]; · iexact Hx
  isplitl [Hs]; · iexact Hs
  isplitl [Ha Hat Hre Hmet]
  · unfold arrived room
    isplitl [Ha Hre]
    · isplitl [Ha]; · iexact Ha
      iexact Hre
    isplitl [Hat]; · iexact Hat
    iexact Hmet
  iexact HO

/-! ## The result's tiles -/

theorem same_eq (v : Vec F S1024x1024 .f32) : same v = v := shapeCast_self v _

theorem ownTile_ok (c : Dev nD) (j : Fin 8) (X : Vec F S1024x1024 .f32) (Q : PUnit → sProp 𝕄) :
    (levAts Lv lv : sProp 𝕄) ⊢ iprop(wTools m c -∗ rTools c -∗ has c (xT true) X -∗ hasAny c (oTile j) -∗ owing c []
      -∗ ((wTools m c ∗ rTools c ∗ has c (xT true) X ∗ has c (oTile j) (dot X (wtile m c j)) ∗ owing c []) -∗ Q ⟨⟩)
      -∗ run c (ownTile j) Q) := by
  unfold ownTile rTools
  simp only [run_bind, same_eq]
  iintro #Hlev Hw ⟨Hi, Hv⟩ Hx Ho HO Hk
  iapply (startW_ok m c j) $$ Hw; iintro Hw
  iapply (waitW_ok m c j (Over.nil 0)) $$ Hlev Hw HO; iintro ⟨Hw, HO⟩
  unfold wHere
  icases Hw with ⟨Hwa, Hwi, Hw⟩
  iapply (loadT_ok c (xT true) X) $$ Hx; iintro Hx
  iapply (loadT_ok c wT (wtile m c j)) $$ Hw; iintro Hw
  iapply (loadAny_ok c vB) $$ Hv; iintro %v Hv
  iapply (storeT_ok c vB (dot X (wtile m c j))) $$ Hv; iintro Hv
  unfold startO
  iapply (start_ok c rD vB (oTile j) (dot X (wtile m c j)) rfl) $$ Hv Ho Hi; iintro Hf
  unfold waitO
  iapply (wait_ok c rD vB (oTile j) (dot X (wtile m c j)) rfl (Over.nil 0)) $$ Hlev Hf HO; iintro ⟨Hv, Ho, Hi, HO⟩
  iapply Hk
  isplitl [Hwa Hwi Hw]
  · iapply (wHere_tools m c j); unfold wHere
    isplitl [Hwa]; · iexact Hwa
    isplitl [Hwi]; · iexact Hwi
    iexact Hw
  isplitl [Hi Hv]
  · isplitl [Hi]; · iexact Hi
    iapply (has_any c vB _); iexact Hv
  isplitl [Hx]; · iexact Hx
  isplitl [Ho]; · iexact Ho
  iexact HO

/-- The buffer a tile of the result is read back into, and its copies' semaphore. -/
def cTools (c : Dev nD) : sProp 𝕄 := iprop(idle c wD ∗ hasAny c vC)

theorem finish_ok (c : Dev nD) (d : Bool) (k' : Fin 3) (t : Fin 4) (j : Fin 8) (P : Vec F S1024x1024 .f32) (Q : PUnit → sProp 𝕄) :
    invs m K ⊢ iprop(levAts Lv lv -∗ cTools c -∗ rTools c -∗ has c (oTile j) P -∗ coming c d 0 t 1 6 -∗ owing c []
      -∗ ((cTools c ∗ rTools c ∗ has c (oTile j) (silu (addf P (partSum m d t 2 (frm d c)))) ∗ arrived c d 0 t 2 ∗ owing c []) -∗ Q ⟨⟩)
      -∗ run c (finish d k' t j) Q) := by
  unfold finish cTools rTools
  simp only [run_bind, same_eq]
  iintro #HI #Hlev ⟨Hci, Hc⟩ ⟨Hi, Hb⟩ Ho Hcm HO Hk
  iapply (waitCame_ok m K c d k' 0 t 1 6 (by decide) (by decide) (Over.nil 6)) $$ HI Hlev Hcm HO; iintro ⟨Hv, Hat, Hre, HO⟩
  unfold landed
  icases Hv with ⟨Hv, Hmet⟩
  unfold startC
  iapply (start_ok c wD (oTile j) vC P rfl) $$ Ho Hc Hci; iintro Hfc
  unfold startR
  iapply (start_ok c rD (rSlot d 0 t) vB _ rfl) $$ Hv Hb Hi; iintro Hf
  unfold waitC
  iapply (wait_ok c wD (oTile j) vC P rfl (Over.nil 0)) $$ Hlev Hfc HO; iintro ⟨Ho, Hc, Hci, HO⟩
  iapply (waitR_ok c d 0 t _ (Over.nil 0)) $$ Hlev Hf HO; iintro ⟨Ha, Hv, Hi, HO⟩
  iapply (loadT_ok c vC P) $$ Hc; iintro Hc
  iapply (loadT_ok c vB _) $$ Hv; iintro Hv
  iapply (loadT_ok c vB _) $$ Hv; iintro Hv
  ihave Hv := (has_any c vB _) $$ Hv
  iapply (storeT_ok c vB (silu (addf P (partSum m d t 2 (frm d c))))) $$ Hv; iintro Hv
  unfold startO
  ihave Ho := (has_any c (oTile j) _) $$ Ho
  iapply (start_ok c rD vB (oTile j) _ rfl) $$ Hv Ho Hi; iintro Hf
  unfold waitO
  iapply (wait_ok c rD vB (oTile j) _ rfl (Over.nil 0)) $$ Hlev Hf HO; iintro ⟨Hv, Ho, Hi, HO⟩
  iapply Hk
  isplitl [Hci Hc]
  · isplitl [Hci]; · iexact Hci
    iapply (has_any c vC _); iexact Hc
  isplitl [Hi Hv]
  · isplitl [Hi]; · iexact Hi
    iapply (has_any c vB _); iexact Hv
  isplitl [Ho]; · iexact Ho
  isplitl [Ha Hat Hre Hmet]
  · unfold arrived room
    isplitl [Ha Hre]
    · isplitl [Ha]; · iexact Ha
      iexact Hre
    isplitl [Hat]; · iexact Hat
    iexact Hmet
  iexact HO

theorem lastTile_ok (c : Dev nD) (d : Bool) (k : Fin 3) (ts : Fin 4) (k' : Fin 3) (t : Fin 4) (j : Fin 8) (P : Vec F S1024x1024 .f32)
    (Q : PUnit → sProp 𝕄) :
    invs m K ⊢ iprop(levAts Lv lv -∗ cTools c -∗ rTools c -∗ has c (oTile j) P -∗ slotBusy c d k 3 -∗ coming c d 0 t 1 6 -∗ owing c []
      -∗ ((slotFree c d k 4 ∗ cTools c ∗ rTools c ∗ has c (oTile j) (silu (addf P (partSum m d t 2 (frm d c)))) ∗ arrived c d 0 t 2
          ∗ owing c []) -∗ Q ⟨⟩)
      -∗ run c (lastTile d k ts k' t j) Q) := by
  unfold lastTile
  simp only [run_bind]
  iintro #HI #Hlev Hc Hrt Ho Hs Hcm HO Hk
  iapply (waitSent_ok m K c d k 0 ts 3 (by decide) (Over.nil 0)) $$ HI Hlev Hs HO; iintro ⟨Hs, HO⟩
  iapply (finish_ok m K c d k' t j P) $$ HI Hlev Hc Hrt Ho Hcm HO
  iintro H
  iapply Hk
  isplitl [Hs]; · iexact Hs
  iexact H

end Cert.RingProof
end
-- ==== Proof.Body.lean ====
/-
# The body

The tiles in order: the handshake, the three hops, the device's own part, the end.
-/
module

public import proofs.«01_k».proof.Proof.Tiles

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites Idealize.ShloMosaic.Transfers

variable {F : FTy → Type} [FloatOps F]

local notation "𝕄" => MT nD τ sig ℕ (Elt F) ℕ UU ℕ

variable (m : (ℓ : Loc nD τ sig) → Buf (Elt F) ℓ) (K : Dev nD × Fin 23 → ℕ)

/-! ## The tiles of a hop together -/

/-- The send slots of a ring free, at launch. -/
def free3 (c : Dev nD) (d : Bool) : sProp 𝕄 := iprop(slotFree c d 0 0 ∗ slotFree c d 1 0 ∗ slotFree c d 2 0)
/-- The send slots of a ring, each with a transfer on the way. -/
def busy3 (c : Dev nD) (d : Bool) (r0 r1 r2 : ℕ) : sProp 𝕄 := iprop(slotBusy c d 0 r0 ∗ slotBusy c d 1 r1 ∗ slotBusy c d 2 r2)
/-- The rights to the transfers of each hop. -/
def passes0 (c : Dev nD) (d : Bool) : sProp 𝕄 := iprop(pass c d 0 0 0 0 0 ∗ pass c d 1 0 0 1 0 ∗ pass c d 2 0 0 2 0 ∗ pass c d 0 1 0 3 0)
def passes1 (c : Dev nD) (d : Bool) : sProp 𝕄 := iprop(pass c d 1 1 1 0 0 ∗ pass c d 2 1 1 1 0 ∗ pass c d 0 2 1 2 0 ∗ pass c d 1 2 1 3 0)
def passes2 (c : Dev nD) (d : Bool) : sProp 𝕄 := iprop(pass c d 2 2 0 0 1 ∗ pass c d 0 3 0 1 1 ∗ pass c d 1 3 0 2 1 ∗ pass c d 2 3 0 3 1)
/-- The receiver's tiles of a slot, free to land in. -/
def rooms (c : Dev nD) (d : Bool) (s : Fin 2) (r : ℕ) : sProp 𝕄 := four fun t => room (tgt d c) d s t r
/-- A hop's landings to come, and come. -/
def comings (c : Dev nD) (d : Bool) (s : Fin 2) (r i : ℕ) : sProp 𝕄 := four fun t => coming c d s t r i
def arriveds (c : Dev nD) (d : Bool) (s : Fin 2) (r : ℕ) : sProp 𝕄 := four fun t => arrived c d s t r

theorem hop_list (c : Dev nD) (s : Fin 2) (i : ℕ) (l : List (Pay nD τ sig)) : hopPays c s i ++ l =
    sendPay c true s 0 i :: sendPay c false s 0 i :: sendPay c true s 1 i :: sendPay c false s 1 i ::
    sendPay c true s 2 i :: sendPay c false s 2 i :: sendPay c true s 3 i :: sendPay c false s 3 i :: l := rfl

/-! ## The sums the tiles make -/

theorem part_first (c : Dev nD) (d : Bool) (t : Fin 4) :
    dot (xblk m c (row d c 0)) (wtile m c (col d t)) = partSum m d t (hopOf 0 0) c := rfl
theorem part_second (c : Dev nD) (d : Bool) (t : Fin 4) :
    addf (dot (xblk m c (row d c 1)) (wtile m c (col d t))) (partSum m d t (hopOf 0 0) (frm d c)) = partSum m d t (hopOf 1 0) c := rfl
theorem part_third (c : Dev nD) (d : Bool) (t : Fin 4) :
    addf (dot (xblk m c (row d c 2)) (wtile m c (col d t))) (partSum m d t (hopOf 1 0) (frm d c)) = partSum m d t (hopOf 0 1) c := rfl

/-! ## The hops -/
set_option maxHeartbeats 4000000 in
theorem hop0_ok (c : Dev nD) (l : List (Pay nD τ sig)) (hl : Over 0 (hopPays c 0 2 ++ l)) (Q : PUnit → sProp 𝕄) :
    invs m K ⊢ iprop(levAts Lv lv -∗ met c -∗ wTools m c -∗ xTools m c -∗ hasAny c (xT true) -∗ hasAny c (xT false)
      -∗ free3 c true -∗ free3 c false -∗ passes0 c true -∗ passes0 c false -∗ rooms c true 0 0 -∗ rooms c false 0 0
      -∗ owing c (hopPays c 0 2 ++ l)
      -∗ ((wTools m c ∗ xTools m c ∗ hasAny c (xT true) ∗ hasAny c (xT false) ∗ busy3 c true 1 0 0 ∗ busy3 c false 1 0 0 ∗ owing c l) -∗ Q ⟨⟩)
      -∗ run c (hop0 c) Q) := by
  rw [hop_list] at hl ⊢
  unfold hop0 free3 busy3 passes0 rooms four
  simp only [run_bind]
  iintro #HI #Hlev #Hm Hw Hxa HxT HxF ⟨HsT0, HsT1, HsT2⟩ ⟨HsF0, HsF1, HsF2⟩ ⟨HpT0, HpT1, HpT2, HpT3⟩ ⟨HpF0, HpF1, HpF2, HpF3⟩
    ⟨HrT0, HrT1, HrT2, HrT3⟩ ⟨HrF0, HrF1, HrF2, HrF3⟩ HO Hk
  iapply (tileA_ok m K c true (k0_off1 c 0#32) (k0_off1_inb c 0) (row true c 0) (k0_off1_eq c 0) 0 0 0 0 _ (Fin.ext (k0_dev3_eq c)) 0 0 2 (by decide) (by decide)
    (part_first m c true 0) _ hl) $$ HI Hlev Hm Hw Hxa HxT HsT0 HpT0 HrT0 HO
  iintro ⟨Hxa, Hw, HxT, HsT0, HO⟩
  iapply (tileA_ok m K c false (k0_off2 c 0#32) (k0_off2_inb c 0) (row false c 0) (k0_off2_eq c 0) 4 0 0 0 _ (Fin.ext (k0_dev4_eq c)) 0 0 2 (by decide) (by decide)
    (part_first m c false 0) _ hl.tail) $$ HI Hlev Hm Hw Hxa HxF HsF0 HpF0 HrF0 HO
  iintro ⟨Hxa, Hw, HxF, HsF0, HO⟩
  iapply (tileB_ok m K c true 1 1 0 1 _ (Fin.ext (k0_dev5_eq c)) 0 0 2 (by decide) (by decide) _
    (part_first m c true 1) _ hl.tail.tail) $$ HI Hlev Hm Hw HxT HsT1 HpT1 HrT1 HO
  iintro ⟨Hw, HxT, HsT1, HO⟩
  iapply (tileB_ok m K c false 5 1 0 1 _ (Fin.ext (k0_dev6_eq c)) 0 0 2 (by decide) (by decide) _
    (part_first m c false 1) _ hl.tail.tail.tail) $$ HI Hlev Hm Hw HxF HsF1 HpF1 HrF1 HO
  iintro ⟨Hw, HxF, HsF1, HO⟩
  iapply (tileB_ok m K c true 2 2 0 2 _ (Fin.ext (k0_dev7_eq c)) 0 0 2 (by decide) (by decide) _
    (part_first m c true 2) _ hl.tail.tail.tail.tail) $$ HI Hlev Hm Hw HxT HsT2 HpT2 HrT2 HO
  iintro ⟨Hw, HxT, HsT2, HO⟩
  iapply (tileB_ok m K c false 6 2 0 2 _ (Fin.ext (k0_dev8_eq c)) 0 0 2 (by decide) (by decide) _
    (part_first m c false 2) _ hl.tail.tail.tail.tail.tail) $$ HI Hlev Hm Hw HxF HsF2 HpF2 HrF2 HO
  iintro ⟨Hw, HxF, HsF2, HO⟩
  iapply (tileC_ok m K c true 3 0 0 0 0 3 _ (Fin.ext (k0_dev9_eq c)) 0 0 2 (by decide) (by decide) _
    (part_first m c true 3) _ hl.tail.tail.tail.tail.tail.tail) $$ HI Hlev Hm Hw HxT HsT0 HpT3 HrT3 HO
  iintro ⟨Hw, HxT, HsT0, HO⟩
  iapply (tileC_ok m K c false 7 0 0 0 0 3 _ (Fin.ext (k0_dev10_eq c)) 0 0 2 (by decide) (by decide) _
    (part_first m c false 3) _ hl.tail.tail.tail.tail.tail.tail.tail) $$ HI Hlev Hm Hw HxF HsF0 HpF3 HrF3 HO
  iintro ⟨Hw, HxF, HsF0, HO⟩
  iapply Hk
  isplitl [Hw]; · iexact Hw
  isplitl [Hxa]; · iexact Hxa
  isplitl [HxT]; · iapply (has_any c (xT true) _); iexact HxT
  isplitl [HxF]; · iapply (has_any c (xT false) _); iexact HxF
  isplitl [HsT0 HsT1 HsT2]
  · isplitl [HsT0]; · iexact HsT0
    isplitl [HsT1]; · iexact HsT1
    iexact HsT2
  isplitl [HsF0 HsF1 HsF2]
  · isplitl [HsF0]; · iexact HsF0
    isplitl [HsF1]; · iexact HsF1
    iexact HsF2
  iexact HO

set_option maxHeartbeats 4000000 in
theorem hop1_ok (c : Dev nD) (l : List (Pay nD τ sig)) (hl : Over 2 (hopPays c 1 4 ++ l)) (Q : PUnit → sProp 𝕄) :
    invs m K ⊢ iprop(levAts Lv lv -∗ met c -∗ wTools m c -∗ rTools c -∗ xTools m c -∗ hasAny c (xT true) -∗ hasAny c (xT false)
      -∗ busy3 c true 1 0 0 -∗ busy3 c false 1 0 0 -∗ comings c true 0 0 2 -∗ comings c false 0 0 2
      -∗ passes1 c true -∗ passes1 c false -∗ rooms c true 1 0 -∗ rooms c false 1 0 -∗ owing c (hopPays c 1 4 ++ l)
      -∗ ((wTools m c ∗ rTools c ∗ xTools m c ∗ hasAny c (xT true) ∗ hasAny c (xT false) ∗ busy3 c true 2 2 1 ∗ busy3 c false 2 2 1
          ∗ arriveds c true 0 1 ∗ arriveds c false 0 1 ∗ owing c l) -∗ Q ⟨⟩)
      -∗ run c (hop1 c) Q) := by
  rw [hop_list] at hl ⊢
  unfold hop1 busy3 comings arriveds passes1 rooms four
  simp only [run_bind]
  iintro #HI #Hlev #Hm Hw Hrt Hxa HxT HxF ⟨HsT0, HsT1, HsT2⟩ ⟨HsF0, HsF1, HsF2⟩ ⟨HcT0, HcT1, HcT2, HcT3⟩ ⟨HcF0, HcF1, HcF2, HcF3⟩
    ⟨HpT0, HpT1, HpT2, HpT3⟩ ⟨HpF0, HpF1, HpF2, HpF3⟩ ⟨HrT0, HrT1, HrT2, HrT3⟩ ⟨HrF0, HrF1, HrF2, HrF3⟩ HO Hk
  iapply (tileD_ok m K c true (k0_off1 c 1#32) (k0_off1_inb c 1) (row true c 1) (k0_off1_eq c 1) 0 1 0 1 0 0 1 0 _ (Fin.ext (k0_dev11_eq c))
    0 0 0 4 2 (by decide) (by decide) (by decide) (by decide) (part_second m c true 0) _ hl)
    $$ HI Hlev Hm Hw Hrt Hxa HxT HsT1 HcT0 HpT0 HrT0 HO
  iintro ⟨Hxa, Hw, Hrt, HxT, HsT1, HaT0, HO⟩
  iapply (tileD_ok m K c false (k0_off2 c 1#32) (k0_off2_inb c 1) (row false c 1) (k0_off2_eq c 1) 4 1 0 1 0 0 1 0 _ (Fin.ext (k0_dev12_eq c))
    0 0 0 4 2 (by decide) (by decide) (by decide) (by decide) (part_second m c false 0) _ hl.tail)
    $$ HI Hlev Hm Hw Hrt Hxa HxF HsF1 HcF0 HpF0 HrF0 HO
  iintro ⟨Hxa, Hw, Hrt, HxF, HsF1, HaF0, HO⟩
  iapply (tileE_ok m K c true 1 2 0 2 1 0 1 1 _ (Fin.ext (k0_dev13_eq c))
    0 0 0 4 2 (by decide) (by decide) (by decide) (by decide) _ (part_second m c true 1) _ hl.tail.tail)
    $$ HI Hlev Hm Hw Hrt HxT HsT2 HcT1 HpT1 HrT1 HO
  iintro ⟨Hw, Hrt, HxT, HsT2, HaT1, HO⟩
  iapply (tileE_ok m K c false 5 2 0 2 1 0 1 1 _ (Fin.ext (k0_dev14_eq c))
    0 0 0 4 2 (by decide) (by decide) (by decide) (by decide) _ (part_second m c false 1) _ hl.tail.tail.tail)
    $$ HI Hlev Hm Hw Hrt HxF HsF2 HcF1 HpF1 HrF1 HO
  iintro ⟨Hw, Hrt, HxF, HsF2, HaF1, HO⟩
  iapply (tileE_ok m K c true 2 0 0 3 2 0 1 2 _ (Fin.ext (k0_dev15_eq c))
    1 0 0 4 2 (by decide) (by decide) (by decide) (by decide) _ (part_second m c true 2) _ hl.tail.tail.tail.tail)
    $$ HI Hlev Hm Hw Hrt HxT HsT0 HcT2 HpT2 HrT2 HO
  iintro ⟨Hw, Hrt, HxT, HsT0, HaT2, HO⟩
  iapply (tileE_ok m K c false 6 0 0 3 2 0 1 2 _ (Fin.ext (k0_dev16_eq c))
    1 0 0 4 2 (by decide) (by decide) (by decide) (by decide) _ (part_second m c false 2) _ hl.tail.tail.tail.tail.tail)
    $$ HI Hlev Hm Hw Hrt HxF HsF0 HcF2 HpF2 HrF2 HO
  iintro ⟨Hw, Hrt, HxF, HsF0, HaF2, HO⟩
  iapply (tileE_ok m K c true 3 1 1 0 0 0 1 3 _ (Fin.ext (k0_dev17_eq c))
    1 0 0 4 2 (by decide) (by decide) (by decide) (by decide) _ (part_second m c true 3) _ hl.tail.tail.tail.tail.tail.tail)
    $$ HI Hlev Hm Hw Hrt HxT HsT1 HcT3 HpT3 HrT3 HO
  iintro ⟨Hw, Hrt, HxT, HsT1, HaT3, HO⟩
  iapply (tileE_ok m K c false 7 1 1 0 0 0 1 3 _ (Fin.ext (k0_dev18_eq c))
    1 0 0 4 2 (by decide) (by decide) (by decide) (by decide) _ (part_second m c false 3) _ hl.tail.tail.tail.tail.tail.tail.tail)
    $$ HI Hlev Hm Hw Hrt HxF HsF1 HcF3 HpF3 HrF3 HO
  iintro ⟨Hw, Hrt, HxF, HsF1, HaF3, HO⟩
  iapply Hk
  isplitl [Hw]; · iexact Hw
  isplitl [Hrt]; · iexact Hrt
  isplitl [Hxa]; · iexact Hxa
  isplitl [HxT]; · iapply (has_any c (xT true) _); iexact HxT
  isplitl [HxF]; · iapply (has_any c (xT false) _); iexact HxF
  isplitl [HsT0 HsT1 HsT2]
  · isplitl [HsT0]; · iexact HsT0
    isplitl [HsT1]; · iexact HsT1
    iexact HsT2
  isplitl [HsF0 HsF1 HsF2]
  · isplitl [HsF0]; · iexact HsF0
    isplitl [HsF1]; · iexact HsF1
    iexact HsF2
  isplitl [HaT0 HaT1 HaT2 HaT3]
  · isplitl [HaT0]; · iexact HaT0
    isplitl [HaT1]; · iexact HaT1
    isplitl [HaT2]; · iexact HaT2
    iexact HaT3
  isplitl [HaF0 HaF1 HaF2 HaF3]
  · isplitl [HaF0]; · iexact HaF0
    isplitl [HaF1]; · iexact HaF1
    isplitl [HaF2]; · iexact HaF2
    iexact HaF3
  iexact HO

set_option maxHeartbeats 4000000 in
theorem hop2tiles_ok (c : Dev nD) (l : List (Pay nD τ sig)) (hl : Over 4 (hopPays c 0 6 ++ l)) (Q : PUnit → sProp 𝕄) :
    invs m K ⊢ iprop(levAts Lv lv -∗ met c -∗ wTools m c -∗ rTools c -∗ xTools m c -∗ hasAny c (xT true) -∗ hasAny c (xT false)
      -∗ busy3 c true 2 2 1 -∗ busy3 c false 2 2 1 -∗ comings c true 1 0 4 -∗ comings c false 1 0 4
      -∗ passes2 c true -∗ passes2 c false -∗ rooms c true 0 1 -∗ rooms c false 0 1 -∗ owing c (hopPays c 0 6 ++ l)
      -∗ ((wTools m c ∗ rTools c ∗ xTools m c ∗ hasAny c (xT true) ∗ hasAny c (xT false) ∗ busy3 c true 3 3 3 ∗ busy3 c false 3 3 3
          ∗ arriveds c true 1 1 ∗ arriveds c false 1 1 ∗ owing c l) -∗ Q ⟨⟩)
      -∗ run c (hop2Tiles c) Q) := by
  rw [hop_list] at hl ⊢
  unfold hop2Tiles busy3 comings arriveds passes2 rooms four
  simp only [run_bind]
  iintro #HI #Hlev #Hm Hw Hrt Hxa HxT HxF ⟨HsT0, HsT1, HsT2⟩ ⟨HsF0, HsF1, HsF2⟩ ⟨HcT0, HcT1, HcT2, HcT3⟩ ⟨HcF0, HcF1, HcF2, HcF3⟩
    ⟨HpT0, HpT1, HpT2, HpT3⟩ ⟨HpF0, HpF1, HpF2, HpF3⟩ ⟨HrT0, HrT1, HrT2, HrT3⟩ ⟨HrF0, HrF1, HrF2, HrF3⟩ HO Hk
  iapply (tileD_ok m K c true (k0_off1 c 2#32) (k0_off1_inb c 2) (row true c 2) (k0_off1_eq c 2) 0 2 1 1 1 1 0 0 _ (Fin.ext (k0_dev21_eq c))
    1 1 0 6 4 (by decide) (by decide) (by decide) (by decide) (part_third m c true 0) _ hl)
    $$ HI Hlev Hm Hw Hrt Hxa HxT HsT2 HcT0 HpT0 HrT0 HO
  iintro ⟨Hxa, Hw, Hrt, HxT, HsT2, HaT0, HO⟩
  iapply (tileD_ok m K c false (k0_off2 c 2#32) (k0_off2_inb c 2) (row false c 2) (k0_off2_eq c 2) 4 2 1 1 1 1 0 0 _ (Fin.ext (k0_dev22_eq c))
    1 1 0 6 4 (by decide) (by decide) (by decide) (by decide) (part_third m c false 0) _ hl.tail)
    $$ HI Hlev Hm Hw Hrt Hxa HxF HsF2 HcF0 HpF0 HrF0 HO
  iintro ⟨Hxa, Hw, Hrt, HxF, HsF2, HaF0, HO⟩
  iapply (tileE_ok m K c true 1 0 1 2 2 1 0 1 _ (Fin.ext (k0_dev23_eq c))
    2 1 0 6 4 (by decide) (by decide) (by decide) (by decide) _ (part_third m c true 1) _ hl.tail.tail)
    $$ HI Hlev Hm Hw Hrt HxT HsT0 HcT1 HpT1 HrT1 HO
  iintro ⟨Hw, Hrt, HxT, HsT0, HaT1, HO⟩
  iapply (tileE_ok m K c false 5 0 1 2 2 1 0 1 _ (Fin.ext (k0_dev24_eq c))
    2 1 0 6 4 (by decide) (by decide) (by decide) (by decide) _ (part_third m c false 1) _ hl.tail.tail.tail)
    $$ HI Hlev Hm Hw Hrt HxF HsF0 HcF1 HpF1 HrF1 HO
  iintro ⟨Hw, Hrt, HxF, HsF0, HaF1, HO⟩
  iapply (tileE_ok m K c true 2 1 1 3 0 1 0 2 _ (Fin.ext (k0_dev25_eq c))
    2 1 0 6 4 (by decide) (by decide) (by decide) (by decide) _ (part_third m c true 2) _ hl.tail.tail.tail.tail)
    $$ HI Hlev Hm Hw Hrt HxT HsT1 HcT2 HpT2 HrT2 HO
  iintro ⟨Hw, Hrt, HxT, HsT1, HaT2, HO⟩
  iapply (tileE_ok m K c false 6 1 1 3 0 1 0 2 _ (Fin.ext (k0_dev26_eq c))
    2 1 0 6 4 (by decide) (by decide) (by decide) (by decide) _ (part_third m c false 2) _ hl.tail.tail.tail.tail.tail)
    $$ HI Hlev Hm Hw Hrt HxF HsF1 HcF2 HpF2 HrF2 HO
  iintro ⟨Hw, Hrt, HxF, HsF1, HaF2, HO⟩
  iapply (tileE_ok m K c true 3 2 0 0 1 1 0 3 _ (Fin.ext (k0_dev27_eq c))
    2 1 0 6 4 (by decide) (by decide) (by decide) (by decide) _ (part_third m c true 3) _ hl.tail.tail.tail.tail.tail.tail)
    $$ HI Hlev Hm Hw Hrt HxT HsT2 HcT3 HpT3 HrT3 HO
  iintro ⟨Hw, Hrt, HxT, HsT2, HaT3, HO⟩
  iapply (tileE_ok m K c false 7 2 0 0 1 1 0 3 _ (Fin.ext (k0_dev28_eq c))
    2 1 0 6 4 (by decide) (by decide) (by decide) (by decide) _ (part_third m c false 3) _ hl.tail.tail.tail.tail.tail.tail.tail)
    $$ HI Hlev Hm Hw Hrt HxF HsF2 HcF3 HpF3 HrF3 HO
  iintro ⟨Hw, Hrt, HxF, HsF2, HaF3, HO⟩
  iapply Hk
  isplitl [Hw]; · iexact Hw
  isplitl [Hrt]; · iexact Hrt
  isplitl [Hxa]; · iexact Hxa
  isplitl [HxT]; · iapply (has_any c (xT true) _); iexact HxT
  isplitl [HxF]; · iapply (has_any c (xT false) _); iexact HxF
  isplitl [HsT0 HsT1 HsT2]
  · isplitl [HsT0]; · iexact HsT0
    isplitl [HsT1]; · iexact HsT1
    iexact HsT2
  isplitl [HsF0 HsF1 HsF2]
  · isplitl [HsF0]; · iexact HsF0
    isplitl [HsF1]; · iexact HsF1
    iexact HsF2
  isplitl [HaT0 HaT1 HaT2 HaT3]
  · isplitl [HaT0]; · iexact HaT0
    isplitl [HaT1]; · iexact HaT1
    isplitl [HaT2]; · iexact HaT2
    iexact HaT3
  isplitl [HaF0 HaF1 HaF2 HaF3]
  · isplitl [HaF0]; · iexact HaF0
    isplitl [HaF1]; · iexact HaF1
    isplitl [HaF2]; · iexact HaF2
    iexact HaF3
  iexact HO

end Cert.RingProof
end
-- ==== Proof.Whole.lean ====
/-
# The whole body

From what the launch gives a device to what it leaves: every buffer its own again, the result's tiles at their values,
its places at its semaphores past their last round.
-/
module

public import proofs.«01_k».proof.Proof.Body

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites Idealize.ShloMosaic.Transfers

variable {F : FTy → Type} [FloatOps F]

local notation "𝕄" => MT nD τ sig ℕ (Elt F) ℕ UU ℕ

variable (m : (ℓ : Loc nD τ sig) → Buf (Elt F) ℓ) (K : Dev nD × Fin 23 → ℕ)

/-! ## The handshakes -/

theorem handshake_ok (c a b : Dev nD) (ha : a = frm true c) (hb : b = frm false c) (r i : ℕ) (hr : r < 2) (hi : i < 7)
    (l : List (Pay nD τ sig)) (hl : Over i l) (Q : PUnit → sProp 𝕄) :
    invs m K ⊢ iprop(levAts Lv lv -∗ raise c true r -∗ raise c false r -∗ (ringRd m).payload (barCell (frm true c)) r true
      -∗ (ringRd m).payload (barCell (frm false c)) r false -∗ awaited c r i -∗ owing c (barPays c i ++ l)
      -∗ ((atPos ER (barCell c) (r + 1) ∅ 0 ∗ reached ER (barCell c) (r + 1)
          ∗ bigSep ((ringRd m).duties (barCell c) r \ ∅) (fun b => (ringRd m).payload (barCell c) r b) ∗ owing c l) -∗ Q ⟨⟩)
      -∗ run c (handshake F a b) Q) := by
  unfold handshake
  simp only [run_bind]
  rw [show barPays c i ++ l = (barCell (frm true c), i, 1) :: (barCell (frm false c), i, 1) :: l from rfl]
  iintro #HI #Hlev Ht Hf Hpt Hpf Haw HO Hk
  iapply (signal_ok m K c a true r i ha hr ((barCell (frm false c), i, 1) :: l)) $$ HI Ht Hpt HO; iintro HO
  iapply (signal_ok m K c b false r i hb hr l) $$ HI Hf Hpf HO; iintro HO
  iapply (waitBar_ok m K c r i hr hi hl) $$ HI Hlev Haw HO
  iexact Hk

/-- A device's own receive slots of ring `d`, before the first handshake. -/
def ownRooms (c : Dev nD) (d : Bool) : sProp 𝕄 := iprop(four (fun t => room c d 0 t 0) ∗ four (fun t => room c d 1 t 0))

theorem give0 (c : Dev nD) (d : Bool) : (ownRooms c d : sProp 𝕄) ⊢ (ringRd m).payload (barCell (frm d c)) 0 d := by
  rw [payload_bar0]; unfold ownRooms barPay0; rw [to_frm]
theorem give1 (c : Dev nD) (d : Bool) : (four (fun t => room c d 0 t 1) : sProp 𝕄) ⊢ (ringRd m).payload (barCell (frm d c)) 1 d := by
  rw [payload_bar1]; unfold barPay1; rw [to_frm]

/-! ## The device's own part, and the end -/

/-- The result's tiles, of any contents. -/
def outAny (c : Dev nD) : sProp 𝕄 := iprop(four (fun t => hasAny c (oTile (col true t))) ∗ four (fun t => hasAny c (oTile (col false t))))
/-- With the device's own products in them. -/
def outOwn (c : Dev nD) : sProp 𝕄 := iprop(four (fun t => has c (oTile (col true t)) (prod m c c (col true t)))
  ∗ four (fun t => has c (oTile (col false t)) (prod m c c (col false t))))
/-- At their final values. -/
def outDone (c : Dev nD) : sProp 𝕄 := iprop(four (fun t => has c (oTile (col true t)) (outTile m c true t))
  ∗ four (fun t => has c (oTile (col false t)) (outTile m c false t)))

set_option maxHeartbeats 2000000 in
theorem own_ok (c : Dev nD) (Q : PUnit → sProp 𝕄) :
    (levAts Lv lv : sProp 𝕄) ⊢ iprop(wTools m c -∗ rTools c -∗ xTools m c -∗ hasAny c (xT true) -∗ outAny c -∗ owing c []
      -∗ ((wTools m c ∗ rTools c ∗ xTools m c ∗ hasAny c (xT true) ∗ outOwn m c ∗ owing c []) -∗ Q ⟨⟩)
      -∗ run c (own c) Q) := by
  unfold own outAny outOwn four
  simp only [run_bind]
  iintro #Hlev Hw Hrt Hxa Hx ⟨⟨HoT0, HoT1, HoT2, HoT3⟩, ⟨HoF0, HoF1, HoF2, HoF3⟩⟩ HO Hk
  iapply (startX_ok m c true (k0_off3 c) (k0_off3_inb c)) $$ Hxa Hx; iintro Hx
  iapply (waitX_ok m c true (k0_off3 c) (k0_off3_inb c) c (k0_off3_eq c) (Over.nil 0)) $$ Hlev Hx HO; iintro ⟨Hxa, Hx, HO⟩
  iapply (ownTile_ok m c (col true 0) (xblk m c c)) $$ Hlev Hw Hrt Hx HoT0 HO; iintro ⟨Hw, Hrt, Hx, HoT0, HO⟩
  iapply (ownTile_ok m c (col false 0) (xblk m c c)) $$ Hlev Hw Hrt Hx HoF0 HO; iintro ⟨Hw, Hrt, Hx, HoF0, HO⟩
  iapply (ownTile_ok m c (col true 1) (xblk m c c)) $$ Hlev Hw Hrt Hx HoT1 HO; iintro ⟨Hw, Hrt, Hx, HoT1, HO⟩
  iapply (ownTile_ok m c (col false 1) (xblk m c c)) $$ Hlev Hw Hrt Hx HoF1 HO; iintro ⟨Hw, Hrt, Hx, HoF1, HO⟩
  iapply (ownTile_ok m c (col true 2) (xblk m c c)) $$ Hlev Hw Hrt Hx HoT2 HO; iintro ⟨Hw, Hrt, Hx, HoT2, HO⟩
  iapply (ownTile_ok m c (col false 2) (xblk m c c)) $$ Hlev Hw Hrt Hx HoF2 HO; iintro ⟨Hw, Hrt, Hx, HoF2, HO⟩
  iapply (ownTile_ok m c (col true 3) (xblk m c c)) $$ Hlev Hw Hrt Hx HoT3 HO; iintro ⟨Hw, Hrt, Hx, HoT3, HO⟩
  iapply (ownTile_ok m c (col false 3) (xblk m c c)) $$ Hlev Hw Hrt Hx HoF3 HO; iintro ⟨Hw, Hrt, Hx, HoF3, HO⟩
  iapply Hk
  isplitl [Hw]; · iexact Hw
  isplitl [Hrt]; · iexact Hrt
  isplitl [Hxa]; · iexact Hxa
  isplitl [Hx]; · iapply (has_any c (xT true) _); iexact Hx
  isplitr [HO]
  · isplitl [HoT0 HoT1 HoT2 HoT3]
    · unfold prod
      isplitl [HoT0]; · iexact HoT0
      isplitl [HoT1]; · iexact HoT1
      isplitl [HoT2]; · iexact HoT2
      iexact HoT3
    unfold prod
    isplitl [HoF0]; · iexact HoF0
    isplitl [HoF1]; · iexact HoF1
    isplitl [HoF2]; · iexact HoF2
    iexact HoF3
  iexact HO

/-- The buffer a tile is read back into. -/
def vTools (c : Dev nD) : sProp 𝕄 := hasAny c vC

set_option maxHeartbeats 2000000 in
theorem ending_ok (c : Dev nD) (Q : PUnit → sProp 𝕄) :
    invs m K ⊢ iprop(levAts Lv lv -∗ cTools c -∗ rTools c -∗ outOwn m c -∗ busy3 c true 3 3 3 -∗ busy3 c false 3 3 3
      -∗ comings c true 0 1 6 -∗ comings c false 0 1 6 -∗ owing c []
      -∗ ((cTools c ∗ rTools c ∗ outDone m c ∗ (slotFree c true 0 4 ∗ slotFree c true 1 4 ∗ slotFree c true 2 4)
          ∗ (slotFree c false 0 4 ∗ slotFree c false 1 4 ∗ slotFree c false 2 4)
          ∗ arriveds c true 0 2 ∗ arriveds c false 0 2 ∗ owing c []) -∗ Q ⟨⟩)
      -∗ run c ending Q) := by
  unfold ending outOwn outDone busy3 comings arriveds four
  simp only [run_bind]
  iintro #HI #Hlev Hct Hrt ⟨⟨HoT0, HoT1, HoT2, HoT3⟩, ⟨HoF0, HoF1, HoF2, HoF3⟩⟩ ⟨HsT0, HsT1, HsT2⟩ ⟨HsF0, HsF1, HsF2⟩
    ⟨HcT0, HcT1, HcT2, HcT3⟩ ⟨HcF0, HcF1, HcF2, HcF3⟩ HO Hk
  iapply (lastTile_ok m K c true 0 1 2 0 (col true 0) (prod m c c (col true 0))) $$ HI Hlev Hct Hrt HoT0 HsT0 HcT0 HO
  iintro ⟨HsT0, Hct, Hrt, HoT0, HaT0, HO⟩
  iapply (lastTile_ok m K c false 0 1 2 0 (col false 0) (prod m c c (col false 0))) $$ HI Hlev Hct Hrt HoF0 HsF0 HcF0 HO
  iintro ⟨HsF0, Hct, Hrt, HoF0, HaF0, HO⟩
  iapply (lastTile_ok m K c true 1 2 0 1 (col true 1) (prod m c c (col true 1))) $$ HI Hlev Hct Hrt HoT1 HsT1 HcT1 HO
  iintro ⟨HsT1, Hct, Hrt, HoT1, HaT1, HO⟩
  iapply (lastTile_ok m K c false 1 2 0 1 (col false 1) (prod m c c (col false 1))) $$ HI Hlev Hct Hrt HoF1 HsF1 HcF1 HO
  iintro ⟨HsF1, Hct, Hrt, HoF1, HaF1, HO⟩
  iapply (lastTile_ok m K c true 2 3 1 2 (col true 2) (prod m c c (col true 2))) $$ HI Hlev Hct Hrt HoT2 HsT2 HcT2 HO
  iintro ⟨HsT2, Hct, Hrt, HoT2, HaT2, HO⟩
  iapply (lastTile_ok m K c false 2 3 1 2 (col false 2) (prod m c c (col false 2))) $$ HI Hlev Hct Hrt HoF2 HsF2 HcF2 HO
  iintro ⟨HsF2, Hct, Hrt, HoF2, HaF2, HO⟩
  iapply (finish_ok m K c true 2 3 (col true 3) (prod m c c (col true 3))) $$ HI Hlev Hct Hrt HoT3 HcT3 HO
  iintro ⟨Hct, Hrt, HoT3, HaT3, HO⟩
  iapply (finish_ok m K c false 2 3 (col false 3) (prod m c c (col false 3))) $$ HI Hlev Hct Hrt HoF3 HcF3 HO
  iintro ⟨Hct, Hrt, HoF3, HaF3, HO⟩
  iapply Hk
  isplitl [Hct]; · iexact Hct
  isplitl [Hrt]; · iexact Hrt
  isplitl [HoT0 HoT1 HoT2 HoT3 HoF0 HoF1 HoF2 HoF3]
  · unfold outTile
    isplitl [HoT0 HoT1 HoT2 HoT3]
    · isplitl [HoT0]; · iexact HoT0
      isplitl [HoT1]; · iexact HoT1
      isplitl [HoT2]; · iexact HoT2
      iexact HoT3
    isplitl [HoF0]; · iexact HoF0
    isplitl [HoF1]; · iexact HoF1
    isplitl [HoF2]; · iexact HoF2
    iexact HoF3
  isplitl [HsT0 HsT1 HsT2]
  · isplitl [HsT0]; · iexact HsT0
    isplitl [HsT1]; · iexact HsT1
    iexact HsT2
  isplitl [HsF0 HsF1 HsF2]
  · isplitl [HsF0]; · iexact HsF0
    isplitl [HsF1]; · iexact HsF1
    iexact HsF2
  isplitl [HaT0 HaT1 HaT2 HaT3]
  · isplitl [HaT0]; · iexact HaT0
    isplitl [HaT1]; · iexact HaT1
    isplitl [HaT2]; · iexact HaT2
    iexact HaT3
  isplitl [HaF0 HaF1 HaF2 HaF3]
  · isplitl [HaF0]; · iexact HaF0
    isplitl [HaF1]; · iexact HaF1
    isplitl [HaF2]; · iexact HaF2
    iexact HaF3
  iexact HO

/-! ## The whole -/

/-- What the last hop's landings may be expected by. -/
def lastCreds (c : Dev nD) (d : Bool) : sProp 𝕄 := four fun t => cred (tallyAt (cameCell c d 0 t) 6 N)

/-- What a ring has of a device at launch. -/
def ringIn (c : Dev nD) (d : Bool) : sProp 𝕄 :=
  iprop(free3 c d ∗ passes0 c d ∗ passes1 c d ∗ passes2 c d ∗ ownRooms c d ∗ comings c d 0 0 2 ∗ comings c d 1 0 4 ∗ lastCreds c d
    ∗ raise c d 0 ∗ dutyTok ER (barCell (frm d c)) 1 d ∗ hasAny c (xT d))
/-- And at the end. -/
def ringOut (c : Dev nD) (d : Bool) : sProp 𝕄 :=
  iprop((slotFree c d 0 4 ∗ slotFree c d 1 4 ∗ slotFree c d 2 4) ∗ arriveds c d 0 2 ∗ arriveds c d 1 1 ∗ hasAny c (xT d))

/-- What a device has at launch. -/
def bodyIn (c : Dev nD) : sProp 𝕄 :=
  iprop(wTools m c ∗ rTools c ∗ xTools m c ∗ hasAny c vC ∗ outAny c ∗ ringIn c true ∗ ringIn c false
    ∗ awaited c 0 1 ∗ cred (tallyAt (barCell c) 5 2) ∗ owing c (dues c))
/-- What it has at the end. -/
def bodyOut (c : Dev nD) : sProp 𝕄 :=
  iprop(wTools m c ∗ rTools c ∗ xTools m c ∗ hasAny c vC ∗ outDone m c ∗ ringOut c true ∗ ringOut c false
    ∗ atPos ER (barCell c) 2 ∅ 0 ∗ owing c [])

/-- The first landings: the tiles go back to the sender, the places wait for the last ones. -/
theorem arriveds_split (c : Dev nD) (d : Bool) :
    (arriveds c d 0 1 : sProp 𝕄) ⊢ iprop(lastCreds c d -∗ (four (fun t => room c d 0 t 1) ∗ comings c d 0 1 6 ∗ met (frm d c))) := by
  unfold arriveds lastCreds comings four arrived coming
  iintro ⟨⟨Hr0, Ha0, #Hm⟩, ⟨Hr1, Ha1, -⟩, ⟨Hr2, Ha2, -⟩, ⟨Hr3, Ha3, -⟩⟩ ⟨Hc0, Hc1, Hc2, Hc3⟩
  isplitl [Hr0 Hr1 Hr2 Hr3]
  · isplitl [Hr0]; · iexact Hr0
    isplitl [Hr1]; · iexact Hr1
    isplitl [Hr2]; · iexact Hr2
    iexact Hr3
  isplitr []
  · isplitl [Hc0 Ha0]
    · isplitl [Hc0]; · iexact Hc0
      iexact Ha0
    isplitl [Hc1 Ha1]
    · isplitl [Hc1]; · iexact Hc1
      iexact Ha1
    isplitl [Hc2 Ha2]
    · isplitl [Hc2]; · iexact Hc2
      iexact Ha2
    isplitl [Hc3]; · iexact Hc3
    iexact Ha3
  iexact Hm

set_option maxHeartbeats 4000000 in
theorem steps_ok (c : Dev nD) (Q : PUnit → sProp 𝕄) :
    invs m K ⊢ iprop(levAts Lv lv -∗ bodyIn m c -∗ (bodyOut m c -∗ Q ⟨⟩) -∗ run c (steps F) Q) := by
  unfold steps bodyIn ringIn
  simp only [run_bind]
  rw [show dues c = barPays c 1 ++ (hopPays c 0 2 ++ (hopPays c 1 4 ++ (barPays c 5 ++ (hopPays c 0 6 ++ [])))) from rfl]
  iintro #HI #Hlev ⟨Hw, Hrt, Hxa, Hvc, Ho, ⟨HsT, Hp0T, Hp1T, Hp2T, HrT, Hc0T, Hc1T, HlT, Hr0T, Hr1T, HxT⟩,
    ⟨HsF, Hp0F, Hp1F, Hp2F, HrF, Hc0F, Hc1F, HlF, Hr0F, Hr1F, HxF⟩, Haw, Hcb, HO⟩ Hk
  unfold run Prog.lift
  rw [wp_deviceId, wp_ret]
  imodintro
  ihave HgT := (give0 m c true) $$ HrT
  ihave HgF := (give0 m c false) $$ HrF
  iapply (handshake_ok m K c _ _ (Fin.ext (k0_dev1_eq c)) (Fin.ext (k0_dev2_eq c)) 0 1 (by decide) (by decide) (hopPays c 0 2 ++ (hopPays c 1 4 ++ (barPays c 5 ++ (hopPays c 0 6 ++ [])))) (over_dues0 c))
    $$ HI Hlev Hr0T Hr0F HgT HgF Haw HO
  iintro ⟨HatB, Hm, Hpay, HO⟩
  ihave #Hm := (show (reached ER (barCell c) (0 + 1) : sProp 𝕄) ⊢ met c from BI.Entails.refl _) $$ Hm
  ihave Hp := (show _ ⊢ iprop((rooms c true 0 0 ∗ rooms c true 1 0) ∗ (rooms c false 0 0 ∗ rooms c false 1 0))
    from Entails.of_eq (rest_bar0 m c)) $$ Hpay
  icases Hp with ⟨⟨HrT0, HrT1⟩, ⟨HrF0, HrF1⟩⟩
  iapply (hop0_ok m K c (hopPays c 1 4 ++ (barPays c 5 ++ (hopPays c 0 6 ++ []))) ((over_dues0 c).le (by decide))) $$ HI Hlev Hm Hw Hxa HxT HxF HsT HsF Hp0T Hp0F HrT0 HrF0 HO
  iintro ⟨Hw, Hxa, HxT, HxF, HsT, HsF, HO⟩
  iapply (hop1_ok m K c (barPays c 5 ++ (hopPays c 0 6 ++ [])) ((over_dues1 c).le (by decide)))
    $$ HI Hlev Hm Hw Hrt Hxa HxT HxF HsT HsF Hc0T Hc0F Hp1T Hp1F HrT1 HrF1 HO
  iintro ⟨Hw, Hrt, Hxa, HxT, HxF, HsT, HsF, HaT, HaF, HO⟩
  ihave HT := (arriveds_split c true) $$ HaT HlT
  icases HT with ⟨HbT, HcT, #HmT⟩
  ihave HF := (arriveds_split c false) $$ HaF HlF
  icases HF with ⟨HbF, HcF, #HmF⟩
  ihave HgT := (give1 m c true) $$ HbT
  ihave HgF := (give1 m c false) $$ HbF
  ihave HrT := (show iprop(dutyTok ER (barCell (frm true c)) 1 true ∗ met (frm true c)) ⊢ (raise c true 1 : sProp 𝕄) from BI.Entails.refl _) $$ [Hr1T]
  · isplitl [Hr1T]; · iexact Hr1T
    iexact HmT
  ihave HrF := (show iprop(dutyTok ER (barCell (frm false c)) 1 false ∗ met (frm false c)) ⊢ (raise c false 1 : sProp 𝕄) from BI.Entails.refl _) $$ [Hr1F]
  · isplitl [Hr1F]; · iexact Hr1F
    iexact HmF
  ihave Haw := (show iprop(cred (tallyAt (barCell c) 5 2) ∗ atPos ER (barCell c) 1 ∅ 0) ⊢ (awaited c 1 5 : sProp 𝕄) from BI.Entails.refl _) $$ [Hcb HatB]
  · isplitl [Hcb]; · iexact Hcb
    iexact HatB
  iapply (handshake_ok m K c _ _ (Fin.ext (k0_dev19_eq c)) (Fin.ext (k0_dev20_eq c)) 1 5 (by decide) (by decide) (hopPays c 0 6 ++ []) (over_dues2 c))
    $$ HI Hlev HrT HrF HgT HgF Haw HO
  iintro ⟨HatB, -, Hpay, HO⟩
  ihave Hp := (show _ ⊢ iprop(rooms c true 0 1 ∗ rooms c false 0 1) from Entails.of_eq (rest_bar1 m c)) $$ Hpay
  icases Hp with ⟨HrT0, HrF0⟩
  iapply (hop2tiles_ok m K c [] ((over_dues2 c).le (by decide)))
    $$ HI Hlev Hm Hw Hrt Hxa HxT HxF HsT HsF Hc1T Hc1F Hp2T Hp2F HrT0 HrF0 HO
  iintro ⟨Hw, Hrt, Hxa, HxT, HxF, HsT, HsF, HaT, HaF, HO⟩
  iapply (own_ok m c) $$ Hlev Hw Hrt Hxa HxT Ho HO
  iintro ⟨Hw, Hrt, Hxa, HxT, Ho, HO⟩
  unfold wTools
  icases Hw with ⟨Hwa, Hwi, Hwb⟩
  ihave Hct := (show iprop(idle c wD ∗ hasAny c vC) ⊢ (cTools c : sProp 𝕄) from BI.Entails.refl _) $$ [Hwi Hvc]
  · isplitl [Hwi]; · iexact Hwi
    iexact Hvc
  iapply (ending_ok m K c) $$ HI Hlev Hct Hrt Ho HsT HsF HcT HcF HO
  unfold cTools
  iintro ⟨⟨Hwi, Hvc⟩, Hrt, Ho, HsT, HsF, HbT, HbF, HO⟩
  iapply Hk
  unfold bodyOut ringOut wTools
  isplitl [Hwa Hwi Hwb]
  · isplitl [Hwa]; · iexact Hwa
    isplitl [Hwi]; · iexact Hwi
    iexact Hwb
  isplitl [Hrt]; · iexact Hrt
  isplitl [Hxa]; · iexact Hxa
  isplitl [Hvc]; · iexact Hvc
  isplitl [Ho]; · iexact Ho
  isplitl [HsT HbT HaT HxT]
  · isplitl [HsT]; · iexact HsT
    isplitl [HbT]; · iexact HbT
    isplitl [HaT]; · iexact HaT
    iexact HxT
  isplitl [HsF HbF HaF HxF]
  · isplitl [HsF]; · iexact HsF
    isplitl [HbF]; · iexact HbF
    isplitl [HaF]; · iexact HaF
    iexact HxF
  isplitl [HatB]; · iexact HatB
  iexact HO

end Cert.RingProof
end
-- ==== Proof.Memory.lean ====
/-
# Buffers and their tiles

A whole buffer is its tiles: the send buffers three, the receive buffers and the result eight each. Taken apart at
launch, put together at the end.
-/
module

public import proofs.«01_k».proof.Proof.Whole

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites Idealize.ShloMosaic.Transfers

variable {F : FTy → Type} [FloatOps F]

local notation "𝕄" => MT nD τ sig ℕ (Elt F) ℕ UU ℕ

variable (m : (ℓ : Loc nD τ sig) → Buf (Elt F) ℓ) (K : Dev nD × Fin 23 → ℕ)

section Generic
variable {T : Type} [Fintype T] [DecidableEq T] {ℓ : Loc nD τ sig} (A : T → Finset (Idx ℓ))
  (hd : ∀ t t', t ≠ t' → Disjoint (A t) (A t')) (hc : ∀ i, ∃ t, i ∈ A t)

include hc in
theorem cover_univ : (Finset.univ : Finset T).biUnion A = Finset.univ :=
  Finset.eq_univ_iff_forall.mpr fun i => by
    obtain ⟨t, ht⟩ := hc i
    exact Finset.mem_biUnion.mpr ⟨t, Finset.mem_univ t, ht⟩

include hd hc in
theorem cut (f : Buf (Elt F) ℓ) : (ℓ ↦{fullShare} f : sProp 𝕄) ⊢ bigSep Finset.univ fun t => ℓ ↦[A t]{fullShare} f := by
  rw [← pointsTo_biUnion Finset.univ A fun t _ t' _ h => hd t t' h, cover_univ A hc]

include hd hc in
/-- Parts put together, each with a property of the contents there. -/
theorem glue_at (P : T → Buf (Elt F) ℓ → Prop) (hP : ∀ t f g, (∀ i ∈ A t, g i = f i) → P t f → P t g) :
    (bigSep Finset.univ (fun t => iprop(∃ f, ⌜P t f⌝ ∗ ℓ ↦[A t]{fullShare} f)) : sProp 𝕄)
      ⊢ iprop(∃ g, ⌜∀ t, P t g⌝ ∗ ℓ ↦{fullShare} g) := by
  iintro H
  ihave H := (BI.bigSep_exists_pi Finset.univ (fun t f => (iprop(⌜P t f⌝ ∗ ℓ ↦[A t]{fullShare} f) : sProp 𝕄))) $$ H
  icases H with ⟨%y, H⟩
  ihave H := (BI.bigSep_pure_sep Finset.univ (fun t => P t (y t)) (fun t => (iprop(ℓ ↦[A t]{fullShare} (y t)) : sProp 𝕄))) $$ H
  icases H with ⟨%hy, H⟩
  ihave H := (pointsTo_biUnion_join Finset.univ A y (fun _ => Classical.arbitrary _) fun t _ t' _ h => hd t t' h) $$ H
  icases H with ⟨%g, %hg, H⟩
  iexists g
  isplitr
  · ipureintro; exact fun t => hP t (y t) g (hg t (Finset.mem_univ t)) (hy t (Finset.mem_univ t))
  · rw [cover_univ A hc]; iexact H

include hd hc in
theorem glue : (bigSep Finset.univ (fun t => iprop(∃ f, ℓ ↦[A t]{fullShare} f)) : sProp 𝕄) ⊢ iprop(∃ g, ℓ ↦{fullShare} g) := by
  refine (BI.bigSep_mono fun t _ => ?_).trans ((glue_at A hd hc (fun _ _ => True) (fun _ _ _ _ _ => trivial)).trans ?_)
  · show iprop(∃ f, ℓ ↦[A t]{fullShare} f) ⊢ iprop(∃ f, ⌜True⌝ ∗ ℓ ↦[A t]{fullShare} f)
    iintro ⟨%f, H⟩; iexists f; isplitr; · (ipureintro; trivial)
    iexact H
  iintro ⟨%g, -, H⟩
  iexists g; iexact H

end Generic

/-- Two parts of a view at disjoint rectangles are disjoint. -/
theorem parts_disjoint {κ : Kind} {sp : Space} {s : Shape} {e : EltTy} (v : View sig κ sp s e) {r r' : Rect s}
    (h : Disjoint r.set r'.set) : Disjoint (v.slice r).set (v.slice r').set := by
  rw [View.set_slice, View.set_slice]; exact (Finset.disjoint_map _).mpr h
/-- Parts of a whole view at covering rectangles cover it. -/
theorem parts_cover {κ : Kind} {sp : Space} {s : Shape} {e : EltTy} (v : View sig κ sp s e) (hv : v.set = Finset.univ)
    {T : Type} (r : T → Rect s) (hr : ∀ x, ∃ t, x ∈ (r t).set) (i : v.ty.Idx) : ∃ t, i ∈ (v.slice (r t)).set := by
  have hi : i ∈ v.set := by rw [hv]; exact Finset.mem_univ i
  obtain ⟨x, -, rfl⟩ := Finset.mem_map.mp hi
  obtain ⟨t, ht⟩ := hr x
  exact ⟨t, by rw [View.set_slice]; exact Finset.mem_map_of_mem _ ht⟩

theorem take_any (c : Dev nD) {sp : Space} (b : Memref sig .tc sp S1024x1024 .f32) :
    (hasAny c b : sProp 𝕄) ⊢ iprop(∃ f, b.view.loc (c : Thread nD τ) ↦[b.view.set]{fullShare} f) := by
  unfold hasAny has owns
  iintro ⟨%X, %f, -, H⟩
  iexists f; iexact H
theorem make_any (c : Dev nD) {sp : Space} (b : Memref sig .tc sp S1024x1024 .f32) (f) :
    (b.view.loc (c : Thread nD τ) ↦[b.view.set]{fullShare} f : sProp 𝕄) ⊢ hasAny c b := by
  unfold hasAny has
  iintro H
  iexists _
  iapply (owns_intro (c : Thread nD τ) b fullShare f)
  iexact H

/-! ## The send buffers -/

abbrev sPart (d : Bool) (c : Dev nD) (k : Fin 3) : Finset (Idx ((sB d).view.loc (c : Thread nD τ))) := (sSlot d k).view.set

theorem sPart_eq (d : Bool) (c : Dev nD) (k : Fin 3) : sPart d c k = ((sB d).view.slice (sRect k)).set := View.set_reshape _ _

theorem sRect_disjoint (k k' : Fin 3) (h : k ≠ k') : Disjoint (sRect k).set (sRect k').set :=
  Rect.unit_disjoint (s := S3x1024x1024) 0 (by
    have := Fin.val_ne_of_ne h
    show k.val + 1 ≤ k'.val ∨ k'.val + 1 ≤ k.val
    omega)
theorem sRect_cover (x : S3x1024x1024.Idx) : ∃ k, x ∈ (sRect k).set := by
  have h0 : (x 0).val < 3 := (x 0).isLt
  have h1 : (x 1).val < 1024 := (x 1).isLt
  have h2 : (x 2).val < 1024 := (x 2).isLt
  refine ⟨⟨(x 0).val, h0⟩, Rect.mem_set_unit.mpr fun a => ?_⟩
  match a with
  | ⟨0, _⟩ => exact ⟨le_refl _, Nat.lt_succ_self _⟩
  | ⟨1, _⟩ => exact ⟨Nat.zero_le _, by show (x 1).val < 0 + 1024; omega⟩
  | ⟨2, _⟩ => exact ⟨Nat.zero_le _, by show (x 2).val < 0 + 1024; omega⟩

theorem sPart_disjoint (d : Bool) (c : Dev nD) (k k' : Fin 3) (h : k ≠ k') : Disjoint (sPart d c k) (sPart d c k') := by
  rw [sPart_eq, sPart_eq]; exact parts_disjoint _ (sRect_disjoint k k' h)
theorem sB_whole (d : Bool) : (sB d).view.set = Finset.univ := Memref.IsWhole.set_eq_univ (by cases d <;> exact Memref.isWhole_whole _)
theorem sPart_cover (d : Bool) (c : Dev nD) (i) : ∃ k, i ∈ sPart d c k := by
  obtain ⟨k, hk⟩ := parts_cover (sB d).view (sB_whole d) sRect sRect_cover i
  exact ⟨k, by rw [sPart_eq]; exact hk⟩

/-- The three slots of a send buffer. -/
def slots (c : Dev nD) (d : Bool) : sProp 𝕄 := iprop(hasAny c (sSlot d 0) ∗ hasAny c (sSlot d 1) ∗ hasAny c (sSlot d 2))

theorem slots_eq (c : Dev nD) (d : Bool) : (slots c d : sProp 𝕄) = bigSep Finset.univ fun k : Fin 3 => hasAny c (sSlot d k) := by
  rw [bigSep_univ_eq_bigSepL [0, 1, 2] (by decide) (by decide)]; rfl

theorem send_cut (c : Dev nD) (d : Bool) (f) : ((sB d).view.loc (c : Thread nD τ) ↦{fullShare} f : sProp 𝕄) ⊢ slots c d := by
  rw [slots_eq]
  exact (cut (sPart d c) (sPart_disjoint d c) (sPart_cover d c) f).trans (BI.bigSep_mono fun k _ => make_any c (sSlot d k) f)
theorem send_glue (c : Dev nD) (d : Bool) : (slots c d : sProp 𝕄) ⊢ iprop(∃ f, (sB d).view.loc (c : Thread nD τ) ↦{fullShare} f) := by
  rw [slots_eq]
  exact (BI.bigSep_mono fun k _ => take_any c (sSlot d k)).trans (glue (sPart d c) (sPart_disjoint d c) (sPart_cover d c))

/-! ## The receive buffers -/

abbrev rRect (p : Fin 2 × Fin 4) : Rect S2x4x1024x1024 :=
  Rect.unit (s := S2x4x1024x1024) ![p.1.val, p.2.val, 0, 0] S1x1x1024x1024.size (rInb p.1 p.2)
abbrev rPart (d : Bool) (c : Dev nD) (p : Fin 2 × Fin 4) : Finset (Idx ((rB d).view.loc (c : Thread nD τ))) :=
  (rSlot d p.1 p.2).view.set

theorem rPart_eq (d : Bool) (c : Dev nD) (p : Fin 2 × Fin 4) : rPart d c p = ((rB d).view.slice (rRect p)).set := View.set_reshape _ _

theorem rRect_disjoint (p p' : Fin 2 × Fin 4) (h : p ≠ p') : Disjoint (rRect p).set (rRect p').set := by
  by_cases h1 : p.1 = p'.1
  · have h2 : p.2.val ≠ p'.2.val := fun e => h (Prod.ext h1 (Fin.ext e))
    refine Rect.unit_disjoint (s := S2x4x1024x1024) 1 ?_
    show p.2.val + 1 ≤ p'.2.val ∨ p'.2.val + 1 ≤ p.2.val
    omega
  · have h2 : p.1.val ≠ p'.1.val := fun e => h1 (Fin.ext e)
    refine Rect.unit_disjoint (s := S2x4x1024x1024) 0 ?_
    show p.1.val + 1 ≤ p'.1.val ∨ p'.1.val + 1 ≤ p.1.val
    omega
theorem rRect_cover (x : S2x4x1024x1024.Idx) : ∃ p, x ∈ (rRect p).set := by
  have h0 : (x 0).val < 2 := (x 0).isLt
  have h1 : (x 1).val < 4 := (x 1).isLt
  have h2 : (x 2).val < 1024 := (x 2).isLt
  have h3 : (x 3).val < 1024 := (x 3).isLt
  refine ⟨(⟨(x 0).val, h0⟩, ⟨(x 1).val, h1⟩), Rect.mem_set_unit.mpr fun a => ?_⟩
  match a with
  | ⟨0, _⟩ => exact ⟨le_refl _, Nat.lt_succ_self _⟩
  | ⟨1, _⟩ => exact ⟨le_refl _, Nat.lt_succ_self _⟩
  | ⟨2, _⟩ => exact ⟨Nat.zero_le _, by show (x 2).val < 0 + 1024; omega⟩
  | ⟨3, _⟩ => exact ⟨Nat.zero_le _, by show (x 3).val < 0 + 1024; omega⟩

theorem rPart_disjoint (d : Bool) (c : Dev nD) (p p' : Fin 2 × Fin 4) (h : p ≠ p') : Disjoint (rPart d c p) (rPart d c p') := by
  rw [rPart_eq, rPart_eq]; exact parts_disjoint _ (rRect_disjoint p p' h)
theorem rB_whole (d : Bool) : (rB d).view.set = Finset.univ := Memref.IsWhole.set_eq_univ (by cases d <;> exact Memref.isWhole_whole _)
theorem rPart_cover (d : Bool) (c : Dev nD) (i) : ∃ p, i ∈ rPart d c p := by
  obtain ⟨p, hp⟩ := parts_cover (rB d).view (rB_whole d) rRect rRect_cover i
  exact ⟨p, by rw [rPart_eq]; exact hp⟩

/-- The eight tiles of a receive buffer. -/
def tiles (c : Dev nD) (d : Bool) : sProp 𝕄 :=
  iprop(four (fun t => hasAny c (rSlot d 0 t)) ∗ four (fun t => hasAny c (rSlot d 1 t)))

theorem tiles_eq (c : Dev nD) (d : Bool) : (tiles c d : sProp 𝕄) = bigSep Finset.univ fun p : Fin 2 × Fin 4 => hasAny c (rSlot d p.1 p.2) := by
  rw [bigSep_univ_prod, bigSep_univ_eq_bigSepL [0, 1] (by decide) (by decide), bigSepL_cons_cons, bigSepL_singleton,
    bigSep_univ_eq_bigSepL [0, 1, 2, 3] (by decide) (by decide), bigSep_univ_eq_bigSepL [0, 1, 2, 3] (by decide) (by decide)]
  rfl

theorem recv_cut (c : Dev nD) (d : Bool) (f) : ((rB d).view.loc (c : Thread nD τ) ↦{fullShare} f : sProp 𝕄) ⊢ tiles c d := by
  rw [tiles_eq]
  exact (cut (rPart d c) (rPart_disjoint d c) (rPart_cover d c) f).trans (BI.bigSep_mono fun p _ => make_any c (rSlot d p.1 p.2) f)

/-! ## The result -/

abbrev oRect (j : Fin 8) : Rect S1024x8192 := Rect.unit (s := S1024x8192) ![0, 1024 * j.val] S1024x1024.size (wInb j)
abbrev oPart (c : Dev nD) (p : Bool × Fin 4) : Finset (Idx (oM.view.loc (c : Thread nD τ))) := (oTile (col p.1 p.2)).view.set

theorem col_inj (p p' : Bool × Fin 4) (h : p ≠ p') : col p.1 p.2 ≠ col p'.1 p'.2 := by revert p p'; decide
theorem col_onto (j : Fin 8) : ∃ p : Bool × Fin 4, col p.1 p.2 = j := by revert j; decide

theorem oRect_disjoint (j j' : Fin 8) (h : j ≠ j') : Disjoint (oRect j).set (oRect j').set :=
  Rect.unit_disjoint (s := S1024x8192) 1 (by
    have := Fin.val_ne_of_ne h
    show 1024 * j.val + 1024 ≤ 1024 * j'.val ∨ 1024 * j'.val + 1024 ≤ 1024 * j.val
    omega)
theorem oRect_cover (x : S1024x8192.Idx) : ∃ j, x ∈ (oRect j).set := by
  have h0 : (x 0).val < 1024 := (x 0).isLt
  have h1 : (x 1).val < 8192 := (x 1).isLt
  refine ⟨⟨(x 1).val / 1024, by omega⟩, Rect.mem_set_unit.mpr fun a => ?_⟩
  match a with
  | ⟨0, _⟩ => exact ⟨Nat.zero_le _, by show (x 0).val < 0 + 1024; omega⟩
  | ⟨1, _⟩ =>
    refine ⟨?_, ?_⟩
    · show 1024 * ((x 1).val / 1024) ≤ (x 1).val; omega
    · show (x 1).val < 1024 * ((x 1).val / 1024) + 1024; omega

theorem oPart_disjoint (c : Dev nD) (p p' : Bool × Fin 4) (h : p ≠ p') : Disjoint (oPart c p) (oPart c p') :=
  parts_disjoint oM.view (oRect_disjoint _ _ (col_inj p p' h))
theorem oPart_cover (c : Dev nD) (i) : ∃ p, i ∈ oPart c p := by
  obtain ⟨j, hj⟩ := parts_cover oM.view (Memref.isWhole_whole _).set_eq_univ oRect oRect_cover i
  obtain ⟨p, rfl⟩ := col_onto j
  exact ⟨p, hj⟩

theorem eight_eq (Φ : Bool × Fin 4 → sProp 𝕄) :
    bigSep Finset.univ Φ = iprop(four (fun t => Φ (true, t)) ∗ four (fun t => Φ (false, t))) := by
  rw [bigSep_univ_prod, bigSep_univ_eq_bigSepL [true, false] (by decide) (by decide), bigSepL_cons_cons, bigSepL_singleton,
    bigSep_univ_eq_bigSepL [0, 1, 2, 3] (by decide) (by decide), bigSep_univ_eq_bigSepL [0, 1, 2, 3] (by decide) (by decide)]
  rfl

theorem out_cut (c : Dev nD) (f) : (oM.view.loc (c : Thread nD τ) ↦{fullShare} f : sProp 𝕄) ⊢ outAny c := by
  rw [show (outAny c : sProp 𝕄) = bigSep Finset.univ (fun p : Bool × Fin 4 => hasAny c (oTile (col p.1 p.2))) from
    (eight_eq fun p : Bool × Fin 4 => hasAny c (oTile (col p.1 p.2))).symm]
  exact (cut (oPart c) (oPart_disjoint c) (oPart_cover c) f).trans (BI.bigSep_mono fun p _ => make_any c (oTile (col p.1 p.2)) f)

/-- What the result's buffer holds in the end: each column tile its part. -/
def OutIs (c : Dev nD) (f : Buf (Elt F) ((c : Thread nD τ).loc main_v1_0)) : Prop :=
  ∀ p : Bool × Fin 4, (oTile (col p.1 p.2)).view.read (Elt F) f = outTile m c p.1 p.2

theorem out_glue (c : Dev nD) : outDone m c ⊢ iprop(∃ f, ⌜OutIs m c f⌝ ∗ ((c : Thread nD τ).loc main_v1_0) ↦{fullShare} f) := by
  rw [show outDone m c = bigSep Finset.univ (fun p : Bool × Fin 4 => has c (oTile (col p.1 p.2)) (outTile m c p.1 p.2)) from
    (eight_eq fun p : Bool × Fin 4 => has c (oTile (col p.1 p.2)) (outTile m c p.1 p.2)).symm]
  exact glue_at (oPart c) (oPart_disjoint c) (oPart_cover c)
    (fun p f => (oTile (col p.1 p.2)).view.read (Elt F) f = outTile m c p.1 p.2)
    (fun p f g h e => by
      rw [← e]; funext i
      exact h _ (Finset.mem_map_of_mem _ (Finset.mem_univ i)))

/-! ## The buffers of one tile -/

theorem xT_whole_set (d : Bool) : (xT d).view.set = Finset.univ := (xT_whole d).set_eq_univ

theorem any_intro (c : Dev nD) {sp : Space} (b : Memref sig .tc sp S1024x1024 .f32) (hb : b.view.set = Finset.univ) (f) :
    (b.view.loc (c : Thread nD τ) ↦{fullShare} f : sProp 𝕄) ⊢ hasAny c b := by
  have h := make_any c b f; rwa [hb] at h
theorem any_elim (c : Dev nD) {sp : Space} (b : Memref sig .tc sp S1024x1024 .f32) (hb : b.view.set = Finset.univ) :
    (hasAny c b : sProp 𝕄) ⊢ iprop(∃ f, b.view.loc (c : Thread nD τ) ↦{fullShare} f) := by
  have h := take_any (F := F) c b; rwa [hb] at h

end Cert.RingProof
end
-- ==== Proof.Silu.lean ====
/-
# The activation over the extended reals

The kernel applies `y * σ(y)` with `σ` the logistic function; the reference divides `y` by `1 + exp(-clip(y, -60, 60))`.
Without the clip the two agree at every extended real; with it they agree where `-60 ≤ y ≤ 60`.
-/
module

public import Idealize.ShloMosaic.PureOps.Ideal

@[expose] public section

noncomputable section

namespace Cert.RingProof

open Idealize.ShloMosaic

/-- The exponential is nowhere negative. -/
theorem exp_nonneg (x : EReal) : 0 ≤ Ideal.exp x := by
  induction x with
  | bot => exact le_rfl
  | top => exact le_top
  | coe r => rw [Ideal.exp_coe]; exact_mod_cast (Real.exp_pos r).le

/-- A denominator `1 + e^x` is not zero. -/
theorem one_add_exp_ne (x : EReal) : (1 : EReal) + Ideal.exp x ≠ 0 :=
  (lt_of_lt_of_le zero_lt_one (le_add_of_nonneg_right (exp_nonneg x))).ne'

/-- `y / (1 + e^(-y))` is `y * σ(y)`, the infinities included. -/
theorem div_silu (y : EReal) : Ideal.div y (1 + Ideal.exp (-y)) = y * Ideal.logistic y := by
  rw [Ideal.logistic, Ideal.div, Ideal.div, if_neg (one_add_exp_ne _), if_neg (one_add_exp_ne _), one_mul]

/-- A sum of four numbers of absolute value at most 15 lies between -60 and 60. -/
theorem bound_four {a b c d : EReal} (ha : max a (-a) ≤ ((15 : ℝ) : EReal)) (hb : max b (-b) ≤ ((15 : ℝ) : EReal))
    (hc : max c (-c) ≤ ((15 : ℝ) : EReal)) (hd : max d (-d) ≤ ((15 : ℝ) : EReal)) :
    ((-60 : ℝ) : EReal) ≤ a + b + c + d ∧ a + b + c + d ≤ ((60 : ℝ) : EReal) := by
  have up : ∀ {z : EReal}, max z (-z) ≤ ((15 : ℝ) : EReal) → z ≤ ((15 : ℝ) : EReal) := fun h => (le_max_left _ _).trans h
  have dn : ∀ {z : EReal}, max z (-z) ≤ ((15 : ℝ) : EReal) → ((-15 : ℝ) : EReal) ≤ z := fun {z} h => by
    have := EReal.neg_le_neg_iff.mpr ((le_max_right z (-z)).trans h)
    rwa [neg_neg, ← EReal.coe_neg] at this
  constructor
  · have := add_le_add (add_le_add (add_le_add (dn ha) (dn hb)) (dn hc)) (dn hd)
    refine le_trans (le_of_eq ?_) this
    norm_cast
  · have := add_le_add (add_le_add (add_le_add (up ha) (up hb)) (up hc)) (up hd)
    refine this.trans (le_of_eq ?_)
    norm_cast

/-- Between its two bounds the clip changes nothing. -/
theorem clip_of_mem {lo hi y : EReal} (h₁ : lo ≤ y) (h₂ : y ≤ hi) : min hi (max lo y) = y := by
  rw [max_eq_right h₁, min_eq_right h₂]

end Cert.RingProof

end
-- ==== Proof.Blocks.lean ====
/-
# The tiles over the extended reals

`x` is cut by columns and `w` by rows over the four devices. What a device multiplies is read as elements of the whole
`x` and `w`; the four devices' partial products of an element add up, in either ring's order, to the whole product's
element; and the result's tile is the activation of that.
-/
module

public import proofs.«01_k».proof.Proof.Memory
public import proofs.«01_k».proof.Proof.Silu
public import Idealize.ShloMosaic.Lib.Pointwise
public import Idealize.ShloMosaic.Lib.Layout

@[expose] public section

noncomputable section

namespace Cert.RingProof

open Cert.KernelIdeal Cert.KernelIdeal.Gen
open Idealize.ShloMosaic
open Idealize.ShloMosaic.TcCoe
open Idealize.SL.Sem

/-- The whole operands' types. -/
abbrev SX : Shape := ⟨2, ![4096, 4096]⟩
abbrev SW : Shape := ⟨2, ![4096, 8192]⟩

variable (m : (ℓ : Loc nD τ sig) → Buf (Elt Ideal) ℓ) (X : SX.Idx → EReal) (W : SW.Idx → EReal)

/-- Each device holds its block of the whole operands: a quarter of `x`'s columns and the same quarter of `w`'s rows. -/
def Holds : Prop := ∀ c : Dev nD,
  m ((c : Thread nD τ).loc main_arg0) = Layout.block ⟨2, ![4096, 1024]⟩ SX 1 4 c X
  ∧ m ((c : Thread nD τ).loc main_arg1) = Layout.block ⟨2, ![1024, 8192]⟩ SW 0 4 c W

/-- Position `b` of block `a` of a dimension cut in blocks of 1024. -/
def at4 (a : Fin 4) (b : Fin 1024) : Fin 4096 := ⟨a.val * 1024 + b.val, by have := a.isLt; have := b.isLt; omega⟩
def at8 (a : Fin 8) (b : Fin 1024) : Fin 8192 := ⟨a.val * 1024 + b.val, by have := a.isLt; have := b.isLt; omega⟩

/-- Device `c`'s share of an element of the product: the sum over its quarter of the contracted dimension. -/
def share (r : Fin 4096) (l : Fin 8192) (c : Fin 4) : EReal := ∑ k : Fin 1024, X (ix2 r (at4 c k)) * W (ix2 (at4 c k) l)

/-- The four shares make the whole product's element. -/
theorem share_sum (r : Fin 4096) (l : Fin 8192) : ∑ k : Fin 4096, X (ix2 r k) * W (ix2 k l) = ∑ c : Fin 4, share X W r l c :=
  Fin.sum_univ_tiles 4 1024 rfl fun k => X (ix2 r k) * W (ix2 k l)

/-- The product of two tiles, at an index. -/
theorem dot_at (x w : Vec Ideal S1024x1024 .f32) (a b : Fin 1024) :
    dot x w (ix2 a b) = ∑ k : Fin 1024, (x (ix2 a k) : EReal) * (w (ix2 k b) : EReal) := by
  pointwise [dot]

variable {m X W}

/-- Row block `r` of a device's `x`, as elements of the whole `x`. -/
theorem xblk_at (h : Holds m X W) (c : Dev nD) (r : Fin 4) (a k : Fin 1024) :
    xblk m c r (ix2 a k) = X (ix2 (at4 r a) (at4 c k)) := by
  show m ((c : Thread nD τ).loc main_arg0) ((Rect.unit (s := S4096x1024) ![1024 * r.val, 0] S1024x1024.size (rowInb r)).emb (ix2 a k)) = _
  rw [(h c).1, Layout.block_apply]
  refine congrArg X (funext fun d => Fin.ext ?_)
  match d with
  | ⟨0, _⟩ =>
    refine (Layout.idx_cols_val _ c _).1.trans ?_
    show 1024 * r.val + 1 * a.val = r.val * 1024 + a.val
    omega
  | ⟨1, _⟩ =>
    refine (Layout.idx_cols_val _ c _).2.trans ?_
    show c.val * 1024 + (0 + 1 * k.val) = c.val * 1024 + k.val
    omega

/-- Column tile `j` of a device's `w`, as elements of the whole `w`. -/
theorem wtile_at (h : Holds m X W) (c : Dev nD) (j : Fin 8) (k b : Fin 1024) :
    wtile m c j (ix2 k b) = W (ix2 (at4 c k) (at8 j b)) := by
  show m ((c : Thread nD τ).loc main_arg1) ((Rect.unit (s := S1024x8192) ![0, 1024 * j.val] S1024x1024.size (wInb j)).emb (ix2 k b)) = _
  rw [(h c).2, Layout.block_apply]
  refine congrArg W (funext fun d => Fin.ext ?_)
  match d with
  | ⟨0, _⟩ =>
    refine (Layout.idx_rows_val _ c _).1.trans ?_
    show c.val * 1024 + (0 + 1 * k.val) = c.val * 1024 + k.val
    omega
  | ⟨1, _⟩ =>
    refine (Layout.idx_rows_val _ c _).2.trans ?_
    show 1024 * j.val + 1 * b.val = j.val * 1024 + b.val
    omega

/-- A device's partial product at an index is its share. -/
theorem prod_at (h : Holds m X W) (c : Dev nD) (r : Fin 4) (j : Fin 8) (a b : Fin 1024) :
    prod m c r j (ix2 a b) = share X W (at4 r a) (at8 j b) c := by
  rw [prod, dot_at]
  exact Finset.sum_congr rfl fun k _ => by rw [xblk_at h, wtile_at h]

/-- The row blocks a partial sum picks up on its way to device `c` are all `c`'s own. -/
theorem row_two (d : Bool) (c : Dev nD) : row d (frm d c) 2 = c := by revert d c; decide
theorem row_one (d : Bool) (c : Dev nD) : row d (frm d (frm d c)) 1 = c := by revert d c; decide
theorem row_zero (d : Bool) (c : Dev nD) : row d (frm d (frm d (frm d c))) 0 = c := by revert d c; decide

/-- Going once round a ring meets every device: a sum in that order is the sum over the devices. -/
theorem ring_sum (f : Fin 4 → EReal) (d : Bool) (c : Dev nD) :
    f c + (f (frm d c) + (f (frm d (frm d c)) + f (frm d (frm d (frm d c))))) = ∑ e : Fin 4, f e := by
  rw [Fin.sum_univ_four]
  have e : ∀ d : Bool, ∀ c : Dev nD, ([c, frm d c, frm d (frm d c), frm d (frm d (frm d c))] : List (Fin 4)).Perm [0, 1, 2, 3] := by
    decide
  have := ((e d c).map f).sum_eq
  simpa [add_assoc] using this

/-- A tile of the result: the activation of the whole product's elements. -/
theorem outTile_at (h : Holds m X W) (c : Dev nD) (d : Bool) (t : Fin 4) (a b : Fin 1024) :
    outTile m c d t (ix2 a b) = (∑ e : Fin 4, share X W (at4 c a) (at8 (col d t) b) e)
      * Ideal.logistic (∑ e : Fin 4, share X W (at4 c a) (at8 (col d t) b) e) := by
  have hy : addf (prod m c c (col d t)) (partSum m d t 2 (frm d c)) (ix2 a b)
      = ∑ e : Fin 4, share X W (at4 c a) (at8 (col d t) b) e := by
    rw [← ring_sum _ d c]
    simp only [partSum, zero_add, one_add_one_eq_two, row_two, row_one, row_zero]
    show (_ : EReal) + (_ + (_ + _)) = _
    rw [prod_at h, prod_at h, prod_at h, prod_at h]
  show (_ : EReal) * Ideal.logistic _ = _
  rw [hy]

end Cert.RingProof

end
-- ==== Proof.Values.lean ====
/-
# What the references compute, and what the precondition says

Each reference's result at an index, as a formula in the elements of `x` and `w`; and the precondition's bound on every
element of a device's partial product.
-/
module

public import proofs.«01_k».proof.Proof.Blocks
public import proofs.«01_k».proof.Proof.Gen.ReferenceIdeal
public import proofs.«01_k».proof.Proof.Gen.UnclippedIdeal
public import proofs.«01_k».proof.Proof.Gen.Pre_partials_small_KernelIdeal
public import Idealize.ShloMosaic.Lib.ReduceAll
public import Idealize.ShloMosaic.Lib.IdealHost

@[expose] public section

noncomputable section

namespace Cert.RingProof

open Idealize.ShloMosaic

/-! ## The literals -/

theorem word_sixty : Ideal.ofBits .f32 0x42700000#32 = ((60 : ℝ) : EReal) := by
  simp [Ideal.ofBits, Ideal.ieee, -EReal.coe_mul]; norm_num
theorem word_neg_sixty : Ideal.ofBits .f32 0xC2700000#32 = ((-60 : ℝ) : EReal) := by
  simp [Ideal.ofBits, Ideal.ieee, -EReal.coe_mul, -EReal.coe_neg]; norm_num
theorem word_fifteen : Ideal.ofBits .f32 0x41700000#32 = ((15 : ℝ) : EReal) := by
  simp [Ideal.ofBits, Ideal.ieee, -EReal.coe_mul]; norm_num

/-- An element of the whole product. -/
def whole (X : SX.Idx → EReal) (W : SW.Idx → EReal) (r : Fin 4096) (l : Fin 8192) : EReal :=
  ∑ k : Fin 4096, X (ix2 r k) * W (ix2 k l)

/-! ## The reference -/

section Clipped
open Cert.ReferenceIdeal Cert.ReferenceIdeal.Gen

/-- The reference's result, as its operations make it of `x` and `w`. -/
def clippedTerm (X : FVec Ideal S4096x4096 .f32) (W : FVec Ideal S4096x8192 .f32) : FVec Ideal S4096x8192 .f32 :=
  Host.divf (Host.dotGeneral dot_S4096x4096_S4096x8192_S4096x8192_1_0_0_1_n_n none X W)
    (addf (broadcastInDim S4096x8192 ![] bcast_S_S4096x8192 (constant S_ .f32 0x3F800000#32))
      (Host.exp (Host.negf
        (minimumf (broadcastInDim S4096x8192 ![] bcast_S_S4096x8192 (id (constant S_ .f32 0x42700000#32)))
          (maximumf (broadcastInDim S4096x8192 ![] bcast_S_S4096x8192 (id (constant S_ .f32 0xC2700000#32)))
            (Host.dotGeneral dot_S4096x4096_S4096x8192_S4096x8192_1_0_0_1_n_n none X W))))))

theorem clippedTerm_at (X : FVec Ideal S4096x4096 .f32) (W : FVec Ideal S4096x8192 .f32) (r : Fin 4096) (l : Fin 8192) :
    clippedTerm X W (ix2 r l) = Ideal.div (whole X W r l)
      (1 + Ideal.exp (-min ((60 : ℝ) : EReal) (max ((-60 : ℝ) : EReal) (whole X W r l)))) := by
  rw [← word_sixty, ← word_neg_sixty]
  pointwise [clippedTerm, whole]
  rfl

end Clipped

section Unclipped
open Cert.UnclippedIdeal Cert.UnclippedIdeal.Gen

/-- The result of the reference without its clip. -/
def unclippedTerm (X : FVec Ideal S4096x4096 .f32) (W : FVec Ideal S4096x8192 .f32) : FVec Ideal S4096x8192 .f32 :=
  Host.divf (Host.dotGeneral dot_S4096x4096_S4096x8192_S4096x8192_1_0_0_1_n_n none X W)
    (addf (broadcastInDim S4096x8192 ![] bcast_S_S4096x8192 (constant S_ .f32 0x3F800000#32))
      (Host.exp (Host.negf (Host.dotGeneral dot_S4096x4096_S4096x8192_S4096x8192_1_0_0_1_n_n none X W))))

theorem unclippedTerm_at (X : FVec Ideal S4096x4096 .f32) (W : FVec Ideal S4096x8192 .f32) (r : Fin 4096) (l : Fin 8192) :
    unclippedTerm X W (ix2 r l) = Ideal.div (whole X W r l) (1 + Ideal.exp (-whole X W r l)) := by
  pointwise [unclippedTerm, whole]

end Unclipped

/-! ## The precondition -/

/-- An element of the product of one device's blocks. -/
def part (x : (⟨2, ![4096, 1024]⟩ : Shape).Idx → EReal) (w : (⟨2, ![1024, 8192]⟩ : Shape).Idx → EReal) (r : Fin 4096) (l : Fin 8192) : EReal :=
  ∑ k : Fin 1024, x (ix2 r k) * w (ix2 k l)

section Pre
open Cert.Pre_partials_small_KernelIdeal Cert.Pre_partials_small_KernelIdeal.Gen

/-- Under the precondition every element of a device's partial product is at most 15 in absolute value. -/
theorem pre_at (x : FVec Ideal S4096x1024 .f32) (w : FVec Ideal S1024x8192 .f32) (h : fn (F := Ideal) x w = fun _ => 1#1)
    (r : Fin 4096) (l : Fin 8192) : max (part x w r l) (-part x w r l) ≤ ((15 : ℝ) : EReal) := by
  have e := Host.reduce_andi_all _ _ _ _ (fun a => a.elim0) (congrFun h _) (ix2 r l)
  pointwise at e
  rw [word_fifteen] at e
  have := of_decide_eq_true (p := FloatOps.absf (F := Ideal) (φ := .f32) _ ≤ _) (by
    by_contra hc
    rw [Bool.not_eq_true] at hc
    rw [hc] at e
    exact absurd e (by decide))
  exact this

end Pre

/-! ## A device's share under the precondition -/

section Share
open Cert.KernelIdeal
open Idealize.ShloMosaic.TcCoe

variable {m : (ℓ : Loc nD τ sig) → Buf (Elt Ideal) ℓ} {X : SX.Idx → EReal} {W : SW.Idx → EReal}

/-- A device's share of an element, read from its own blocks. -/
theorem share_own (h : Holds m X W) (c : Dev nD) (r : Fin 4096) (l : Fin 8192) :
    share X W r l c = part (m ((c : Thread nD τ).loc main_arg0)) (m ((c : Thread nD τ).loc main_arg1)) r l := by
  rw [(h c).1, (h c).2]
  refine Finset.sum_congr rfl fun k _ => ?_
  rw [Layout.block_apply, Layout.block_apply]
  congr 1
  · refine congrArg X (funext fun d => Fin.ext ?_)
    match d with
    | ⟨0, _⟩ => exact Eq.symm ((Layout.idx_cols_val _ c _).1.trans rfl)
    | ⟨1, _⟩ => exact Eq.symm ((Layout.idx_cols_val _ c _).2.trans rfl)
  · refine congrArg W (funext fun d => Fin.ext ?_)
    match d with
    | ⟨0, _⟩ => exact Eq.symm ((Layout.idx_rows_val _ c _).1.trans rfl)
    | ⟨1, _⟩ => exact Eq.symm ((Layout.idx_rows_val _ c _).2.trans rfl)

end Share

end Cert.RingProof

end
-- ==== Proof.Cells.lean ====
/-
# The cells of the rings, one device at a time

The semaphores of a device as one list and as two rings with a barrier; the tokens the launch deals, sorted by who
spends them; the credit the launch owes a device; and the closing of every cell at the end, which gives the semaphores
back at zero.
-/
module

public import proofs.«01_k».proof.Proof.Memory
public import Idealize.ShloMosaic.Lib.Pipeline.BigSepL

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites Idealize.ShloMosaic.Transfers

variable {F : FTy → Type} [FloatOps F]

local notation "𝕄" => MT nD τ sig ℕ (Elt F) ℕ UU ℕ

variable (m : (ℓ : Loc nD τ sig) → Buf (Elt F) ℓ) (K : Dev nD × Fin 23 → ℕ)

/-! ## A device's cells as a list -/

/-- Something of every cell of one ring. -/
def ringOf (Φ : GSem nD τ sig → sProp 𝕄) (c : Dev nD) (d : Bool) : sProp 𝕄 :=
  iprop((Φ (sentCell c d 0) ∗ Φ (sentCell c d 1) ∗ Φ (sentCell c d 2)) ∗ four (fun t => Φ (cameCell c d 0 t)) ∗ four (fun t => Φ (cameCell c d 1 t)))

set_option maxRecDepth 8000 in
theorem cells_list (Φ : GSem nD τ sig → sProp 𝕄) (c : Dev nD) : (bigSep Finset.univ fun k : Fin 23 => Φ (kcell (c, k)))
    = iprop(Φ (sentCell c true 0) ∗ Φ (sentCell c true 1) ∗ Φ (sentCell c true 2) ∗ Φ (cameCell c true 0 0) ∗ Φ (cameCell c true 0 1) ∗ Φ (cameCell c true 0 2) ∗ Φ (cameCell c true 0 3) ∗ Φ (cameCell c true 1 0) ∗ Φ (cameCell c true 1 1) ∗ Φ (cameCell c true 1 2) ∗ Φ (cameCell c true 1 3) ∗ Φ (sentCell c false 0) ∗ Φ (sentCell c false 1) ∗ Φ (sentCell c false 2) ∗ Φ (cameCell c false 0 0) ∗ Φ (cameCell c false 0 1) ∗ Φ (cameCell c false 0 2) ∗ Φ (cameCell c false 0 3) ∗ Φ (cameCell c false 1 0) ∗ Φ (cameCell c false 1 1) ∗ Φ (cameCell c false 1 2) ∗ Φ (cameCell c false 1 3) ∗ Φ (barCell c)) := by
  rw [bigSep_univ_eq_bigSepL [0, 1, 2, 6, 7, 8, 9, 10, 11, 12, 13, 3, 4, 5, 14, 15, 16, 17, 18, 19, 20, 21, 22] (by decide) (by decide)]
  rfl

theorem cells_out (Φ : GSem nD τ sig → sProp 𝕄) (c : Dev nD) : (bigSep Finset.univ fun k : Fin 23 => Φ (kcell (c, k)))
    ⊢ iprop(ringOf Φ c true ∗ ringOf Φ c false ∗ Φ (barCell c)) := by
  rw [cells_list]; unfold ringOf four
  iintro ⟨ST0, ST1, ST2, AT0, AT1, AT2, AT3, BT0, BT1, BT2, BT3, SF0, SF1, SF2, AF0, AF1, AF2, AF3, BF0, BF1, BF2, BF3, HB⟩
  isplitl [ST0 ST1 ST2 AT0 AT1 AT2 AT3 BT0 BT1 BT2 BT3]
  · isplitl [ST0 ST1 ST2]
    · isplitl [ST0]
      · iexact ST0
      isplitl [ST1]
      · iexact ST1
      iexact ST2
    isplitl [AT0 AT1 AT2 AT3]
    · isplitl [AT0]
      · iexact AT0
      isplitl [AT1]
      · iexact AT1
      isplitl [AT2]
      · iexact AT2
      iexact AT3
    isplitl [BT0]
    · iexact BT0
    isplitl [BT1]
    · iexact BT1
    isplitl [BT2]
    · iexact BT2
    iexact BT3
  isplitl [SF0 SF1 SF2 AF0 AF1 AF2 AF3 BF0 BF1 BF2 BF3]
  · isplitl [SF0 SF1 SF2]
    · isplitl [SF0]
      · iexact SF0
      isplitl [SF1]
      · iexact SF1
      iexact SF2
    isplitl [AF0 AF1 AF2 AF3]
    · isplitl [AF0]
      · iexact AF0
      isplitl [AF1]
      · iexact AF1
      isplitl [AF2]
      · iexact AF2
      iexact AF3
    isplitl [BF0]
    · iexact BF0
    isplitl [BF1]
    · iexact BF1
    isplitl [BF2]
    · iexact BF2
    iexact BF3
  iexact HB

theorem cells_in (Φ : GSem nD τ sig → sProp 𝕄) (c : Dev nD) : iprop(ringOf Φ c true ∗ ringOf Φ c false ∗ Φ (barCell c))
    ⊢ bigSep Finset.univ fun k : Fin 23 => Φ (kcell (c, k)) := by
  rw [cells_list]; unfold ringOf four
  iintro ⟨⟨⟨ST0, ST1, ST2⟩, ⟨AT0, AT1, AT2, AT3⟩, ⟨BT0, BT1, BT2, BT3⟩⟩, ⟨⟨SF0, SF1, SF2⟩, ⟨AF0, AF1, AF2, AF3⟩, ⟨BF0, BF1, BF2, BF3⟩⟩, HB⟩
  isplitl [ST0]
  · iexact ST0
  isplitl [ST1]
  · iexact ST1
  isplitl [ST2]
  · iexact ST2
  isplitl [AT0]
  · iexact AT0
  isplitl [AT1]
  · iexact AT1
  isplitl [AT2]
  · iexact AT2
  isplitl [AT3]
  · iexact AT3
  isplitl [BT0]
  · iexact BT0
  isplitl [BT1]
  · iexact BT1
  isplitl [BT2]
  · iexact BT2
  isplitl [BT3]
  · iexact BT3
  isplitl [SF0]
  · iexact SF0
  isplitl [SF1]
  · iexact SF1
  isplitl [SF2]
  · iexact SF2
  isplitl [AF0]
  · iexact AF0
  isplitl [AF1]
  · iexact AF1
  isplitl [AF2]
  · iexact AF2
  isplitl [AF3]
  · iexact AF3
  isplitl [BF0]
  · iexact BF0
  isplitl [BF1]
  · iexact BF1
  isplitl [BF2]
  · iexact BF2
  isplitl [BF3]
  · iexact BF3
  iexact HB

/-! ## The semaphores at the launch and at the end -/

/-- The kernel's own semaphores. -/
abbrev osem : Fin 25 → SemLoc sig := fun i => .dma i
theorem ownSemFacts : Pipeline.OwnSemFacts cfg0.spec osem := by decide

/-- A device's own semaphores, at zero. -/
abbrev ownZero (c : Dev nD) : sProp 𝕄 := Pipeline.ownSems0 (Ix := ℕ) (Name := ℕ) (U := UU) (Lvl := ℕ) (Val := Elt F) (τ := τ) osem c
abbrev freeZero (c : Dev nD) : sProp 𝕄 := unscopedSems0 (Ix := ℕ) (Name := ℕ) (U := UU) (Lvl := ℕ) (Val := Elt F) (τ := τ) (sig := sig) c
/-- A semaphore at zero. -/
def zero (g : GSem nD τ sig) : sProp 𝕄 := semVal g 0

set_option maxRecDepth 8000 in
theorem ownZero_list (c : Dev nD) : (ownZero c : sProp 𝕄)
    = iprop(zero (sentCell c true 0) ∗ zero (sentCell c true 1) ∗ zero (sentCell c true 2) ∗ zero (cameCell c true 0 0) ∗ zero (cameCell c true 0 1) ∗ zero (cameCell c true 0 2) ∗ zero (cameCell c true 0 3) ∗ zero (cameCell c true 1 0) ∗ zero (cameCell c true 1 1) ∗ zero (cameCell c true 1 2) ∗ zero (cameCell c true 1 3) ∗ zero (sentCell c false 0) ∗ zero (sentCell c false 1) ∗ zero (sentCell c false 2) ∗ zero (cameCell c false 0 0) ∗ zero (cameCell c false 0 1) ∗ zero (cameCell c false 0 2) ∗ zero (cameCell c false 0 3) ∗ zero (cameCell c false 1 0) ∗ zero (cameCell c false 1 1) ∗ zero (cameCell c false 1 2) ∗ zero (cameCell c false 1 3) ∗ idle c xD ∗ idle c wD ∗ idle c rD) := by
  unfold ownZero
  rw [Pipeline.ownSems0_eq_of_list c osem [0, 1, 2, 6, 7, 8, 9, 10, 11, 12, 13, 3, 4, 5, 14, 15, 16, 17, 18, 19, 20, 21, 22, 23, 24] (by decide) (by decide)]
  rfl
theorem freeZero_eq (c : Dev nD) : (freeZero c : sProp 𝕄) = zero (barCell c) := by
  unfold freeZero unscopedSems0; rw [bigSep_eq_bigSepL_of_eq [SemLoc.reg barS] (by decide) (by decide)]; rfl

theorem zero_out (c : Dev nD) : (ownZero c : sProp 𝕄) ⊢ iprop((ringOf zero c true ∗ ringOf zero c false) ∗ idle c xD ∗ idle c wD ∗ idle c rD) := by
  rw [ownZero_list]; unfold ringOf four
  iintro ⟨ST0, ST1, ST2, AT0, AT1, AT2, AT3, BT0, BT1, BT2, BT3, SF0, SF1, SF2, AF0, AF1, AF2, AF3, BF0, BF1, BF2, BF3, HX, HW, HR⟩
  isplitl [ST0 ST1 ST2 AT0 AT1 AT2 AT3 BT0 BT1 BT2 BT3 SF0 SF1 SF2 AF0 AF1 AF2 AF3 BF0 BF1 BF2 BF3]
  · isplitl [ST0 ST1 ST2 AT0 AT1 AT2 AT3 BT0 BT1 BT2 BT3]
    · isplitl [ST0 ST1 ST2]
      · isplitl [ST0]
        · iexact ST0
        isplitl [ST1]
        · iexact ST1
        iexact ST2
      isplitl [AT0 AT1 AT2 AT3]
      · isplitl [AT0]
        · iexact AT0
        isplitl [AT1]
        · iexact AT1
        isplitl [AT2]
        · iexact AT2
        iexact AT3
      isplitl [BT0]
      · iexact BT0
      isplitl [BT1]
      · iexact BT1
      isplitl [BT2]
      · iexact BT2
      iexact BT3
    isplitl [SF0 SF1 SF2]
    · isplitl [SF0]
      · iexact SF0
      isplitl [SF1]
      · iexact SF1
      iexact SF2
    isplitl [AF0 AF1 AF2 AF3]
    · isplitl [AF0]
      · iexact AF0
      isplitl [AF1]
      · iexact AF1
      isplitl [AF2]
      · iexact AF2
      iexact AF3
    isplitl [BF0]
    · iexact BF0
    isplitl [BF1]
    · iexact BF1
    isplitl [BF2]
    · iexact BF2
    iexact BF3
  isplitl [HX]
  · iexact HX
  isplitl [HW]
  · iexact HW
  iexact HR

theorem zero_in (c : Dev nD) : iprop((ringOf zero c true ∗ ringOf zero c false) ∗ idle c xD ∗ idle c wD ∗ idle c rD) ⊢ (ownZero c : sProp 𝕄) := by
  rw [ownZero_list]; unfold ringOf four
  iintro ⟨⟨⟨⟨ST0, ST1, ST2⟩, ⟨AT0, AT1, AT2, AT3⟩, ⟨BT0, BT1, BT2, BT3⟩⟩, ⟨⟨SF0, SF1, SF2⟩, ⟨AF0, AF1, AF2, AF3⟩, ⟨BF0, BF1, BF2, BF3⟩⟩⟩, HX, HW, HR⟩
  isplitl [ST0]
  · iexact ST0
  isplitl [ST1]
  · iexact ST1
  isplitl [ST2]
  · iexact ST2
  isplitl [AT0]
  · iexact AT0
  isplitl [AT1]
  · iexact AT1
  isplitl [AT2]
  · iexact AT2
  isplitl [AT3]
  · iexact AT3
  isplitl [BT0]
  · iexact BT0
  isplitl [BT1]
  · iexact BT1
  isplitl [BT2]
  · iexact BT2
  isplitl [BT3]
  · iexact BT3
  isplitl [SF0]
  · iexact SF0
  isplitl [SF1]
  · iexact SF1
  isplitl [SF2]
  · iexact SF2
  isplitl [AF0]
  · iexact AF0
  isplitl [AF1]
  · iexact AF1
  isplitl [AF2]
  · iexact AF2
  isplitl [AF3]
  · iexact AF3
  isplitl [BF0]
  · iexact BF0
  isplitl [BF1]
  · iexact BF1
  isplitl [BF2]
  · iexact BF2
  isplitl [BF3]
  · iexact BF3
  isplitl [HX]
  · iexact HX
  isplitl [HW]
  · iexact HW
  iexact HR

/-! ## Closing the cells -/

/-- The places a ring's cells are left at. -/
def ringEnd (c : Dev nD) (d : Bool) : sProp 𝕄 :=
  iprop((atPos ER (sentCell c d 0) 4 ∅ 0 ∗ atPos ER (sentCell c d 1) 4 ∅ 0 ∗ atPos ER (sentCell c d 2) 4 ∅ 0)
    ∗ four (fun t => atPos ER (cameCell c d 0 t) 2 ∅ 0) ∗ four (fun t => atPos ER (cameCell c d 1 t) 1 ∅ 0))

theorem close_sent (c : Dev nD) (d : Bool) (k : Fin 3) :
    iprop(invs m K ∗ atPos ER (sentCell c d k) 4 ∅ 0) ⊢ iprop(|={Set.univ}=> zero (sentCell c d k)) :=
  (sep_mono_left (invs_sent m K c d k)).trans (Rounds.cell_close ER (ringRd m) (Set.mem_univ _) (fun h => h) (duties_sent_later m c d k))
theorem close_came0 (c : Dev nD) (d : Bool) (t : Fin 4) :
    iprop(invs m K ∗ atPos ER (cameCell c d 0 t) 2 ∅ 0) ⊢ iprop(|={Set.univ}=> zero (cameCell c d 0 t)) :=
  (sep_mono_left (invs_came m K c d 0 t)).trans (Rounds.cell_close ER (ringRd m) (Set.mem_univ _) (fun h => h) (duties_came_later m c d 0 t))
theorem close_came1 (c : Dev nD) (d : Bool) (t : Fin 4) :
    iprop(invs m K ∗ atPos ER (cameCell c d 1 t) 1 ∅ 0) ⊢ iprop(|={Set.univ}=> zero (cameCell c d 1 t)) :=
  (sep_mono_left (invs_came m K c d 1 t)).trans (Rounds.cell_close ER (ringRd m) (Set.mem_univ _) (fun h => h) (duties_came_later m c d 1 t))
theorem close_bar (c : Dev nD) :
    iprop(invs m K ∗ atPos ER (barCell c) 2 ∅ 0) ⊢ iprop(|={Set.univ}=> zero (barCell c)) :=
  (sep_mono_left (invs_bar m K c)).trans (Rounds.cell_close ER (ringRd m) (Set.mem_univ _) (fun h => h) (duties_bar_later m c))

theorem close_ring (c : Dev nD) (d : Bool) : iprop(invs m K ∗ ringEnd c d) ⊢ iprop(|={Set.univ}=> ringOf zero c d) := by
  unfold ringEnd ringOf four
  iintro ⟨#HI, ⟨⟨ST0, ST1, ST2⟩, ⟨AT0, AT1, AT2, AT3⟩, ⟨BT0, BT1, BT2, BT3⟩⟩⟩
  imod (close_sent m K c d 0) $$ [ST0] with ST0
  · isplitr; · iexact HI
    iexact ST0
  imod (close_sent m K c d 1) $$ [ST1] with ST1
  · isplitr; · iexact HI
    iexact ST1
  imod (close_sent m K c d 2) $$ [ST2] with ST2
  · isplitr; · iexact HI
    iexact ST2
  imod (close_came0 m K c d 0) $$ [AT0] with AT0
  · isplitr; · iexact HI
    iexact AT0
  imod (close_came0 m K c d 1) $$ [AT1] with AT1
  · isplitr; · iexact HI
    iexact AT1
  imod (close_came0 m K c d 2) $$ [AT2] with AT2
  · isplitr; · iexact HI
    iexact AT2
  imod (close_came0 m K c d 3) $$ [AT3] with AT3
  · isplitr; · iexact HI
    iexact AT3
  imod (close_came1 m K c d 0) $$ [BT0] with BT0
  · isplitr; · iexact HI
    iexact BT0
  imod (close_came1 m K c d 1) $$ [BT1] with BT1
  · isplitr; · iexact HI
    iexact BT1
  imod (close_came1 m K c d 2) $$ [BT2] with BT2
  · isplitr; · iexact HI
    iexact BT2
  imod (close_came1 m K c d 3) $$ [BT3] with BT3
  · isplitr; · iexact HI
    iexact BT3
  imodintro
  isplitl [ST0 ST1 ST2]
  · isplitl [ST0]
    · iexact ST0
    isplitl [ST1]
    · iexact ST1
    iexact ST2
  isplitl [AT0 AT1 AT2 AT3]
  · isplitl [AT0]
    · iexact AT0
    isplitl [AT1]
    · iexact AT1
    isplitl [AT2]
    · iexact AT2
    iexact AT3
  isplitl [BT0]
  · iexact BT0
  isplitl [BT1]
  · iexact BT1
  isplitl [BT2]
  · iexact BT2
  iexact BT3

/-! ## The launch credit -/

/-- The payments of a schedule by the ring they follow: device `c` pays them at the devices it sends to. -/
def paysOf (l : List (Bool × SemLoc sig × ℕ × ℕ)) (c : Dev nD) : List (Pay nD τ sig) :=
  l.map fun p => (((tgt p.1 c : Thread nD τ), p.2.1), p.2.2.1, p.2.2.2)
/-- The same at the device itself: what it is paid. -/
def paidOf (l : List (Bool × SemLoc sig × ℕ × ℕ)) (c : Dev nD) : List (Pay nD τ sig) :=
  l.map fun p => (((c : Thread nD τ), p.2.1), p.2.2.1, p.2.2.2)

theorem launch_paid (l : List (Bool × SemLoc sig × ℕ × ℕ)) (c : Dev nD) :
    (Pipeline.launchCred (fun d => tallyL (paysOf l d)) c : sProp 𝕄) ⊢ bigSepL (paidOf l c) fun x => cred x.tally := by
  induction l with
  | nil => exact Entails.of_eq (Pipeline.launchCred_zero c)
  | cons p l ih =>
    show (Pipeline.launchCred (fun d => tallyAt ((tgt p.1 d : Thread nD τ), p.2.1) p.2.2.1 p.2.2.2 + tallyL (paysOf l d)) c : sProp 𝕄) ⊢ _
    rw [Pipeline.launchCred_add]
    exact (BI.Laws.sep_mono (Pipeline.launchCred_tallyAt p.2.1 (tgt p.1) (frm p.1) (to_frm p.1) (frm_to p.1) p.2.2.1 p.2.2.2 c) ih).trans
      (Entails.of_eq (bigSepL_cons (((c : Thread nD τ), p.2.1), p.2.2.1, p.2.2.2) (paidOf l c) (fun x : Pay nD τ sig => (cred x.tally : sProp 𝕄))).symm)

/-- All a device pays, in order. -/
def allPays : List (Bool × SemLoc sig × ℕ × ℕ) :=
  [(false, .reg barS, 1, 1),
   (true, .reg barS, 1, 1),
   (true, .dma (rSem true 0 0), 2, N),
   (false, .dma (rSem false 0 0), 2, N),
   (true, .dma (rSem true 0 1), 2, N),
   (false, .dma (rSem false 0 1), 2, N),
   (true, .dma (rSem true 0 2), 2, N),
   (false, .dma (rSem false 0 2), 2, N),
   (true, .dma (rSem true 0 3), 2, N),
   (false, .dma (rSem false 0 3), 2, N),
   (true, .dma (rSem true 1 0), 4, N),
   (false, .dma (rSem false 1 0), 4, N),
   (true, .dma (rSem true 1 1), 4, N),
   (false, .dma (rSem false 1 1), 4, N),
   (true, .dma (rSem true 1 2), 4, N),
   (false, .dma (rSem false 1 2), 4, N),
   (true, .dma (rSem true 1 3), 4, N),
   (false, .dma (rSem false 1 3), 4, N),
   (false, .reg barS, 5, 1),
   (true, .reg barS, 5, 1),
   (true, .dma (rSem true 0 0), 6, N),
   (false, .dma (rSem false 0 0), 6, N),
   (true, .dma (rSem true 0 1), 6, N),
   (false, .dma (rSem false 0 1), 6, N),
   (true, .dma (rSem true 0 2), 6, N),
   (false, .dma (rSem false 0 2), 6, N),
   (true, .dma (rSem true 0 3), 6, N),
   (false, .dma (rSem false 0 3), 6, N)]
theorem dues_eq (c : Dev nD) : dues c = paysOf allPays c := rfl

/-- What the launch credits a device with. -/
def creds (c : Dev nD) : sProp 𝕄 :=
  iprop((cred (tallyAt (barCell c) 1 2) ∗ cred (tallyAt (barCell c) 5 2))
    ∗ ((four fun t => cred (tallyAt (cameCell c true 0 t) 2 N)) ∗ (four fun t => cred (tallyAt (cameCell c true 1 t) 4 N)) ∗ lastCreds c true)
    ∗ ((four fun t => cred (tallyAt (cameCell c false 0 t) 2 N)) ∗ (four fun t => cred (tallyAt (cameCell c false 1 t) 4 N)) ∗ lastCreds c false))
theorem two_units (g : GSem nD τ sig) (i : ℕ) : iprop(cred (tallyAt g i 1) ∗ cred (tallyAt g i 1)) ⊢ (cred (tallyAt g i 2) : sProp 𝕄) := by
  rw [show (tallyAt g i 2 : CellTallies nD τ sig ℕ) = tallyAt g i 1 + tallyAt g i 1 from (tallyAt_add g i 1 1).symm]
  exact (cred_add _ _).2

theorem paid_list (c : Dev nD) : (bigSepL (paidOf allPays c) fun x => (cred x.tally : sProp 𝕄)) = iprop(cred (tallyAt (barCell c) 1 1) ∗ cred (tallyAt (barCell c) 1 1) ∗ cred (tallyAt (cameCell c true 0 0) 2 N) ∗ cred (tallyAt (cameCell c false 0 0) 2 N) ∗ cred (tallyAt (cameCell c true 0 1) 2 N) ∗ cred (tallyAt (cameCell c false 0 1) 2 N) ∗ cred (tallyAt (cameCell c true 0 2) 2 N) ∗ cred (tallyAt (cameCell c false 0 2) 2 N) ∗ cred (tallyAt (cameCell c true 0 3) 2 N) ∗ cred (tallyAt (cameCell c false 0 3) 2 N) ∗ cred (tallyAt (cameCell c true 1 0) 4 N) ∗ cred (tallyAt (cameCell c false 1 0) 4 N) ∗ cred (tallyAt (cameCell c true 1 1) 4 N) ∗ cred (tallyAt (cameCell c false 1 1) 4 N) ∗ cred (tallyAt (cameCell c true 1 2) 4 N) ∗ cred (tallyAt (cameCell c false 1 2) 4 N) ∗ cred (tallyAt (cameCell c true 1 3) 4 N) ∗ cred (tallyAt (cameCell c false 1 3) 4 N) ∗ cred (tallyAt (barCell c) 5 1) ∗ cred (tallyAt (barCell c) 5 1) ∗ cred (tallyAt (cameCell c true 0 0) 6 N) ∗ cred (tallyAt (cameCell c false 0 0) 6 N) ∗ cred (tallyAt (cameCell c true 0 1) 6 N) ∗ cred (tallyAt (cameCell c false 0 1) 6 N) ∗ cred (tallyAt (cameCell c true 0 2) 6 N) ∗ cred (tallyAt (cameCell c false 0 2) 6 N) ∗ cred (tallyAt (cameCell c true 0 3) 6 N) ∗ cred (tallyAt (cameCell c false 0 3) 6 N)) := rfl

theorem launch_creds (c : Dev nD) : (Pipeline.launchCred (fun d => tallyL (dues d)) c : sProp 𝕄) ⊢ creds c := by
  rw [show (fun d => tallyL (dues d) : Dev nD → CellTallies nD τ sig ℕ) = fun d => tallyL (paysOf allPays d) from rfl]
  refine (launch_paid allPays c).trans ?_
  rw [paid_list]; unfold creds lastCreds four
  iintro ⟨C0, C1, C2, C3, C4, C5, C6, C7, C8, C9, C10, C11, C12, C13, C14, C15, C16, C17, C18, C19, C20, C21, C22, C23, C24, C25, C26, C27⟩
  ihave C0 := (two_units (barCell c) 1) $$ [C0 C1]
  · isplitl [C0] <;> iassumption
  ihave C18 := (two_units (barCell c) 5) $$ [C18 C19]
  · isplitl [C18] <;> iassumption
  isplitl [C0 C18]
  · isplitl [C0]
    · iexact C0
    iexact C18
  isplitl [C2 C4 C6 C8 C10 C12 C14 C16 C20 C22 C24 C26]
  · isplitl [C2 C4 C6 C8]
    · isplitl [C2]
      · iexact C2
      isplitl [C4]
      · iexact C4
      isplitl [C6]
      · iexact C6
      iexact C8
    isplitl [C10 C12 C14 C16]
    · isplitl [C10]
      · iexact C10
      isplitl [C12]
      · iexact C12
      isplitl [C14]
      · iexact C14
      iexact C16
    isplitl [C20]
    · iexact C20
    isplitl [C22]
    · iexact C22
    isplitl [C24]
    · iexact C24
    iexact C26
  isplitl [C3 C5 C7 C9]
  · isplitl [C3]
    · iexact C3
    isplitl [C5]
    · iexact C5
    isplitl [C7]
    · iexact C7
    iexact C9
  isplitl [C11 C13 C15 C17]
  · isplitl [C11]
    · iexact C11
    isplitl [C13]
    · iexact C13
    isplitl [C15]
    · iexact C15
    iexact C17
  isplitl [C21]
  · iexact C21
  isplitl [C23]
  · iexact C23
  isplitl [C25]
  · iexact C25
  iexact C27

/-! ## The tokens -/

/-- A device's tokens of one ring: which cell, which round, which of its payers. -/
def tokIx (d : Bool) (j : Fin 26) : Fin 23 × ℕ × Bool :=
  if j.val < 2 then (iBar, j.val, d)
  else if j.val < 14 then (iSent d (Fin.ofNat 3 (j.val - 2)), (j.val - 2) / 3, false)
  else (iCame d (if (j.val - 14) / 4 = 1 then 1 else 0) (Fin.ofNat 4 (j.val - 14)), if (j.val - 14) / 4 = 2 then 1 else 0, false)

set_option maxRecDepth 16000 in
theorem tokIx_inj : ∀ x y : Bool × Fin 26, tokIx x.1 x.2 = tokIx y.1 y.2 → x = y := by decide

theorem csem_inj : ∀ i j : Fin 23, csem i = csem j → i = j := by decide
theorem kcell_injective : Function.Injective (kcell : Dev nD × Fin 23 → GSem nD τ sig) := by
  rintro ⟨c, k⟩ ⟨c', k'⟩ h
  have h1 : c = c' := congrArg (fun g : GSem nD τ sig => g.1.1) h
  have h2 : k = k' := csem_inj _ _ (congrArg Prod.snd h)
  subst h1; subst h2; rfl
def ringCells : Finset (GSem nD τ sig) := Finset.univ.map ⟨kcell, kcell_injective⟩

def tokOf (x : Dev nD × Bool × Fin 26) : GSem nD τ sig × ℕ × Bool := (kcell (x.1, (tokIx x.2.1 x.2.2).1), (tokIx x.2.1 x.2.2).2)
theorem tokOf_injective : Function.Injective tokOf := by
  rintro ⟨c, x⟩ ⟨c', y⟩ h
  have h1 := kcell_injective (congrArg Prod.fst h)
  have h2 : c = c' := congrArg Prod.fst h1
  have h4 : (tokIx x.1 x.2).2 = (tokIx y.1 y.2).2 := congrArg (fun z : GSem nD τ sig × ℕ × Bool => z.2) h
  have h5 : (tokIx x.1 x.2).1 = (tokIx y.1 y.2).1 := congrArg (fun z : Dev nD × Fin 23 => z.2) h1
  have h3 : x = y := tokIx_inj x y (Prod.ext h5 h4)
  subst h2; subst h3; rfl
def ringToks : Finset (GSem nD τ sig × ℕ × Bool) := Finset.univ.map ⟨tokOf, tokOf_injective⟩

def barToks (c : Dev nD) (d : Bool) : sProp 𝕄 := iprop(dutyTok ER (barCell c) 0 d ∗ dutyTok ER (barCell c) 1 d)
def sentToks (c : Dev nD) (d : Bool) : sProp 𝕄 := iprop(dutyTok ER (sentCell c d 0) 0 false ∗ dutyTok ER (sentCell c d 1) 0 false ∗ dutyTok ER (sentCell c d 2) 0 false ∗ dutyTok ER (sentCell c d 0) 1 false ∗ dutyTok ER (sentCell c d 1) 1 false ∗ dutyTok ER (sentCell c d 2) 1 false ∗ dutyTok ER (sentCell c d 0) 2 false ∗ dutyTok ER (sentCell c d 1) 2 false ∗ dutyTok ER (sentCell c d 2) 2 false ∗ dutyTok ER (sentCell c d 0) 3 false ∗ dutyTok ER (sentCell c d 1) 3 false ∗ dutyTok ER (sentCell c d 2) 3 false)
def cameToks (c : Dev nD) (d : Bool) : sProp 𝕄 := iprop(dutyTok ER (cameCell c d 0 0) 0 false ∗ dutyTok ER (cameCell c d 0 1) 0 false ∗ dutyTok ER (cameCell c d 0 2) 0 false ∗ dutyTok ER (cameCell c d 0 3) 0 false ∗ dutyTok ER (cameCell c d 1 0) 0 false ∗ dutyTok ER (cameCell c d 1 1) 0 false ∗ dutyTok ER (cameCell c d 1 2) 0 false ∗ dutyTok ER (cameCell c d 1 3) 0 false ∗ dutyTok ER (cameCell c d 0 0) 1 false ∗ dutyTok ER (cameCell c d 0 1) 1 false ∗ dutyTok ER (cameCell c d 0 2) 1 false ∗ dutyTok ER (cameCell c d 0 3) 1 false)
/-- The tokens of a device's own cells, and those it spends. -/
def ownToks (c : Dev nD) (d : Bool) : sProp 𝕄 := iprop(barToks c d ∗ sentToks c d ∗ cameToks c d)
def payToks (c : Dev nD) (d : Bool) : sProp 𝕄 := iprop(barToks (frm d c) d ∗ sentToks c d ∗ cameToks (tgt d c) d)

set_option maxRecDepth 8000 in
theorem tokIx_table (d : Bool) : List.map (tokIx d) [0, 1, 2, 3, 4, 5, 6, 7, 8, 9, 10, 11, 12, 13, 14, 15, 16, 17, 18, 19, 20, 21, 22, 23, 24, 25] = [(iBar, 0, d), (iBar, 1, d), (iSent d 0, 0, false), (iSent d 1, 0, false), (iSent d 2, 0, false), (iSent d 0, 1, false), (iSent d 1, 1, false), (iSent d 2, 1, false), (iSent d 0, 2, false), (iSent d 1, 2, false), (iSent d 2, 2, false), (iSent d 0, 3, false), (iSent d 1, 3, false), (iSent d 2, 3, false), (iCame d 0 0, 0, false), (iCame d 0 1, 0, false), (iCame d 0 2, 0, false), (iCame d 0 3, 0, false), (iCame d 1 0, 0, false), (iCame d 1 1, 0, false), (iCame d 1 2, 0, false), (iCame d 1 3, 0, false), (iCame d 0 0, 1, false), (iCame d 0 1, 1, false), (iCame d 0 2, 1, false), (iCame d 0 3, 1, false)] := by revert d; decide
theorem kcell_mid (c : Dev nD) : kcell (c, iBar) = barCell c := by rw [kcell, csem_bar]
theorem kcell_sent (c : Dev nD) (d : Bool) (k : Fin 3) : kcell (c, iSent d k) = sentCell c d k := by rw [kcell, csem_sent]
theorem kcell_came (c : Dev nD) (d : Bool) (s : Fin 2) (t : Fin 4) : kcell (c, iCame d s t) = cameCell c d s t := by rw [kcell, csem_came]
theorem toks_table (c : Dev nD) (d : Bool) : (List.map (fun j : Fin 26 => tokOf (c, d, j)) [0, 1, 2, 3, 4, 5, 6, 7, 8, 9, 10, 11, 12, 13, 14, 15, 16, 17, 18, 19, 20, 21, 22, 23, 24, 25])
    = [(barCell c, 0, d), (barCell c, 1, d), (sentCell c d 0, 0, false), (sentCell c d 1, 0, false), (sentCell c d 2, 0, false), (sentCell c d 0, 1, false), (sentCell c d 1, 1, false), (sentCell c d 2, 1, false), (sentCell c d 0, 2, false), (sentCell c d 1, 2, false), (sentCell c d 2, 2, false), (sentCell c d 0, 3, false), (sentCell c d 1, 3, false), (sentCell c d 2, 3, false), (cameCell c d 0 0, 0, false), (cameCell c d 0 1, 0, false), (cameCell c d 0 2, 0, false), (cameCell c d 0 3, 0, false), (cameCell c d 1 0, 0, false), (cameCell c d 1 1, 0, false), (cameCell c d 1 2, 0, false), (cameCell c d 1 3, 0, false), (cameCell c d 0 0, 1, false), (cameCell c d 0 1, 1, false), (cameCell c d 0 2, 1, false), (cameCell c d 0 3, 1, false)] :=
  (List.map_map (f := tokIx d) (g := fun x : Fin 23 × ℕ × Bool => (kcell (c, x.1), x.2)) (l := [0, 1, 2, 3, 4, 5, 6, 7, 8, 9, 10, 11, 12, 13, 14, 15, 16, 17, 18, 19, 20, 21, 22, 23, 24, 25])).symm.trans
    ((congrArg _ (tokIx_table d)).trans (by simp only [List.map_cons, List.map_nil, kcell_sent, kcell_came, kcell_mid]))
theorem toks_list (c : Dev nD) (d : Bool) : (bigSep Finset.univ fun j : Fin 26 => (dutyTok ER (tokOf (c, d, j)).1 (tokOf (c, d, j)).2.1 (tokOf (c, d, j)).2.2 : sProp 𝕄))
    = iprop((dutyTok ER (barCell c) 0 d ∗ dutyTok ER (barCell c) 1 d ∗ dutyTok ER (sentCell c d 0) 0 false ∗ dutyTok ER (sentCell c d 1) 0 false ∗ dutyTok ER (sentCell c d 2) 0 false ∗ dutyTok ER (sentCell c d 0) 1 false ∗ dutyTok ER (sentCell c d 1) 1 false ∗ dutyTok ER (sentCell c d 2) 1 false ∗ dutyTok ER (sentCell c d 0) 2 false ∗ dutyTok ER (sentCell c d 1) 2 false ∗ dutyTok ER (sentCell c d 2) 2 false ∗ dutyTok ER (sentCell c d 0) 3 false ∗ dutyTok ER (sentCell c d 1) 3 false ∗ dutyTok ER (sentCell c d 2) 3 false ∗ dutyTok ER (cameCell c d 0 0) 0 false ∗ dutyTok ER (cameCell c d 0 1) 0 false ∗ dutyTok ER (cameCell c d 0 2) 0 false ∗ dutyTok ER (cameCell c d 0 3) 0 false ∗ dutyTok ER (cameCell c d 1 0) 0 false ∗ dutyTok ER (cameCell c d 1 1) 0 false ∗ dutyTok ER (cameCell c d 1 2) 0 false ∗ dutyTok ER (cameCell c d 1 3) 0 false ∗ dutyTok ER (cameCell c d 0 0) 1 false ∗ dutyTok ER (cameCell c d 0 1) 1 false ∗ dutyTok ER (cameCell c d 0 2) 1 false ∗ dutyTok ER (cameCell c d 0 3) 1 false)) := by
  rw [bigSep_univ_eq_bigSepL [0, 1, 2, 3, 4, 5, 6, 7, 8, 9, 10, 11, 12, 13, 14, 15, 16, 17, 18, 19, 20, 21, 22, 23, 24, 25] (by decide) (by decide),
    ← Idealize.SL.BI.bigSepL_map (fun j : Fin 26 => tokOf (c, d, j)) _ (fun x => (dutyTok ER x.1 x.2.1 x.2.2 : sProp 𝕄)), toks_table]
  rfl

theorem toks_own (c : Dev nD) (d : Bool) : (bigSep Finset.univ fun j : Fin 26 => (dutyTok ER (tokOf (c, d, j)).1 (tokOf (c, d, j)).2.1 (tokOf (c, d, j)).2.2 : sProp 𝕄))
    ⊢ ownToks c d := by
  rw [toks_list]; unfold ownToks barToks sentToks cameToks
  iintro ⟨T0, T1, S0, S1, S2, S3, S4, S5, S6, S7, S8, S9, S10, S11, R0, R1, R2, R3, R4, R5, R6, R7, R8, R9, R10, R11⟩
  isplitl [T0 T1]
  · isplitl [T0]
    · iexact T0
    iexact T1
  isplitl [S0 S1 S2 S3 S4 S5 S6 S7 S8 S9 S10 S11]
  · isplitl [S0]
    · iexact S0
    isplitl [S1]
    · iexact S1
    isplitl [S2]
    · iexact S2
    isplitl [S3]
    · iexact S3
    isplitl [S4]
    · iexact S4
    isplitl [S5]
    · iexact S5
    isplitl [S6]
    · iexact S6
    isplitl [S7]
    · iexact S7
    isplitl [S8]
    · iexact S8
    isplitl [S9]
    · iexact S9
    isplitl [S10]
    · iexact S10
    iexact S11
  isplitl [R0]
  · iexact R0
  isplitl [R1]
  · iexact R1
  isplitl [R2]
  · iexact R2
  isplitl [R3]
  · iexact R3
  isplitl [R4]
  · iexact R4
  isplitl [R5]
  · iexact R5
  isplitl [R6]
  · iexact R6
  isplitl [R7]
  · iexact R7
  isplitl [R8]
  · iexact R8
  isplitl [R9]
  · iexact R9
  isplitl [R10]
  · iexact R10
  iexact R11

theorem toks_around : (bigSep Finset.univ fun c : Dev nD => iprop(ownToks c true ∗ ownToks c false) : sProp 𝕄)
    ⊢ bigSep Finset.univ fun c : Dev nD => iprop(payToks c true ∗ payToks c false) := by
  have h (d : Bool) : (bigSep Finset.univ fun c : Dev nD => (ownToks c d : sProp 𝕄)) ⊢ bigSep Finset.univ fun c : Dev nD => payToks c d := by
    unfold ownToks payToks
    rw [bigSep_sep', bigSep_sep', bigSep_sep', bigSep_sep',
      bigSep_univ_equiv (ring d).symm (fun c : Dev nD => (barToks c d : sProp 𝕄)),
      bigSep_univ_equiv (ring d) (fun c : Dev nD => (cameToks c d : sProp 𝕄))]
    exact BI.Entails.refl _
  rw [bigSep_sep', bigSep_sep']
  exact BI.Laws.sep_mono (h true) (h false)

/-- The spent tokens as the transfers and the handshakes take them. -/
theorem payToks_out (c : Dev nD) (d : Bool) : (payToks c d : sProp 𝕄)
    ⊢ iprop((dutyTok ER (barCell (frm d c)) 0 d ∗ dutyTok ER (barCell (frm d c)) 1 d) ∗ passes0 c d ∗ passes1 c d ∗ passes2 c d) := by
  unfold payToks barToks sentToks cameToks passes0 passes1 passes2 pass
  iintro ⟨⟨T0, T1⟩, ⟨S0, S1, S2, S3, S4, S5, S6, S7, S8, S9, S10, S11⟩, ⟨R0, R1, R2, R3, R4, R5, R6, R7, R8, R9, R10, R11⟩⟩
  isplitl [T0 T1]
  · isplitl [T0]
    · iexact T0
    iexact T1
  isplitl [S0 R0 S1 R1 S2 R2 S3 R3]
  · isplitl [S0 R0]
    · isplitl [S0]
      · iexact S0
      iexact R0
    isplitl [S1 R1]
    · isplitl [S1]
      · iexact S1
      iexact R1
    isplitl [S2 R2]
    · isplitl [S2]
      · iexact S2
      iexact R2
    isplitl [S3]
    · iexact S3
    iexact R3
  isplitl [S4 R4 S5 R5 S6 R6 S7 R7]
  · isplitl [S4 R4]
    · isplitl [S4]
      · iexact S4
      iexact R4
    isplitl [S5 R5]
    · isplitl [S5]
      · iexact S5
      iexact R5
    isplitl [S6 R6]
    · isplitl [S6]
      · iexact S6
      iexact R6
    isplitl [S7]
    · iexact S7
    iexact R7
  isplitl [S8 R8]
  · isplitl [S8]
    · iexact S8
    iexact R8
  isplitl [S9 R9]
  · isplitl [S9]
    · iexact S9
    iexact R9
  isplitl [S10 R10]
  · isplitl [S10]
    · iexact S10
    iexact R10
  isplitl [S11]
  · iexact S11
  iexact R11

end Cert.RingProof
end
-- ==== Proof.Run.lean ====
/-
# The run

The launch's resources are sorted into what each device starts its body with, the body is run, and its cells are
closed. `run_main`: from any memory with its semaphores at zero every execution ends, with `x` and `w` as they were, the
result's tiles at the sums the ring makes, and every semaphore at zero — for any float values.
-/
module

public import proofs.«01_k».proof.Proof.Cells
public import Idealize.ShloMosaic.Lib.Pipeline.CollectiveSegs
public import Idealize.ShloMosaic.Lib.Quiescent

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.TalkSites Idealize.ShloMosaic.Transfers

variable {F : FTy → Type} [FloatOps F]

local notation "𝕄" => MT nD τ sig ℕ (Elt F) ℕ UU ℕ

variable (m : (ℓ : Loc nD τ sig) → Buf (Elt F) ℓ) (ρ : Dev nD → PrngReg) (K : Dev nD × Fin 23 → ℕ)

/-! ## What a device starts with -/

/-- That every cell is at its first round. -/
def firsts : sProp 𝕄 := bigSep Finset.univ fun ck : Dev nD × Fin 23 => reached ER (kcell ck) 0
instance firsts_persistent : BI.Persistent (firsts (F := F) : sProp 𝕄) := by unfold firsts; infer_instance
theorem first_bar (c : Dev nD) : (firsts : sProp 𝕄) ⊢ reached ER (barCell c) 0 := by
  unfold firsts; exact bigSep_elim (Φ := fun ck : Dev nD × Fin 23 => (reached ER (kcell ck) 0 : sProp 𝕄)) (Finset.mem_univ (c, iBar))
theorem first_sent (c : Dev nD) (d : Bool) (k : Fin 3) : (firsts : sProp 𝕄) ⊢ reached ER (sentCell c d k) 0 := by
  rw [← kcell_sent]; unfold firsts; exact bigSep_elim (Φ := fun ck : Dev nD × Fin 23 => (reached ER (kcell ck) 0 : sProp 𝕄)) (Finset.mem_univ (c, iSent d k))
theorem first_came (c : Dev nD) (d : Bool) (s : Fin 2) (t : Fin 4) : (firsts : sProp 𝕄) ⊢ reached ER (cameCell c d s t) 0 := by
  rw [← kcell_came]; unfold firsts; exact bigSep_elim (Φ := fun ck : Dev nD × Fin 23 => (reached ER (kcell ck) 0 : sProp 𝕄)) (Finset.mem_univ (c, iCame d s t))

/-- A device's place at a cell's first round. -/
def place (g : GSem nD τ sig) : sProp 𝕄 := atPos ER g 0 ∅ 0

/-- The credit of one ring's landings. -/
def ringCreds (c : Dev nD) (d : Bool) : sProp 𝕄 :=
  iprop((four fun t => cred (tallyAt (cameCell c d 0 t) 2 N)) ∗ (four fun t => cred (tallyAt (cameCell c d 1 t) 4 N)) ∗ lastCreds c d)

set_option maxHeartbeats 4000000 in
theorem ring_start (c : Dev nD) (d : Bool) : (firsts : sProp 𝕄)
    ⊢ iprop((slots c d ∗ tiles c d ∗ ringOf place c d ∗ payToks c d ∗ ringCreds c d ∗ hasAny c (xT d)) -∗ ringIn c d) := by
  iintro #HR ⟨HS, HT, HP, HK, HC, HX⟩
  ihave HK := (payToks_out (F := F) c d) $$ HK
  icases HK with ⟨⟨Hb0, Hb1⟩, Hp0, Hp1, Hp2⟩
  unfold slots tiles ringOf place ringCreds four
  icases HS with ⟨S0, S1, S2⟩
  icases HT with ⟨⟨A0, A1, A2, A3⟩, B0, B1, B2, B3⟩
  icases HP with ⟨⟨PS0, PS1, PS2⟩, ⟨PA0, PA1, PA2, PA3⟩, PB0, PB1, PB2, PB3⟩
  icases HC with ⟨⟨CA0, CA1, CA2, CA3⟩, ⟨CB0, CB1, CB2, CB3⟩, HL⟩
  unfold ringIn free3 slotFree ownRooms room comings coming raise four
  isplitl [S0 PS0 S1 PS1 S2 PS2]
  · isplitl [S0 PS0]
    · isplitl [S0]
      · iexact S0
      isplitl [PS0]
      · iexact PS0
      iapply (first_sent (F := F) c d 0); iexact HR
    isplitl [S1 PS1]
    · isplitl [S1]
      · iexact S1
      isplitl [PS1]
      · iexact PS1
      iapply (first_sent (F := F) c d 1); iexact HR
    isplitl [S2]
    · iexact S2
    isplitl [PS2]
    · iexact PS2
    iapply (first_sent (F := F) c d 2); iexact HR
  isplitl [Hp0]
  · iexact Hp0
  isplitl [Hp1]
  · iexact Hp1
  isplitl [Hp2]
  · iexact Hp2
  isplitl [A0 A1 A2 A3 B0 B1 B2 B3]
  · isplitl [A0 A1 A2 A3]
    · isplitl [A0]
      · isplitl [A0]
        · iexact A0
        iapply (first_came (F := F) c d 0 0); iexact HR
      isplitl [A1]
      · isplitl [A1]
        · iexact A1
        iapply (first_came (F := F) c d 0 1); iexact HR
      isplitl [A2]
      · isplitl [A2]
        · iexact A2
        iapply (first_came (F := F) c d 0 2); iexact HR
      isplitl [A3]
      · iexact A3
      iapply (first_came (F := F) c d 0 3); iexact HR
    isplitl [B0]
    · isplitl [B0]
      · iexact B0
      iapply (first_came (F := F) c d 1 0); iexact HR
    isplitl [B1]
    · isplitl [B1]
      · iexact B1
      iapply (first_came (F := F) c d 1 1); iexact HR
    isplitl [B2]
    · isplitl [B2]
      · iexact B2
      iapply (first_came (F := F) c d 1 2); iexact HR
    isplitl [B3]
    · iexact B3
    iapply (first_came (F := F) c d 1 3); iexact HR
  isplitl [CA0 PA0 CA1 PA1 CA2 PA2 CA3 PA3]
  · isplitl [CA0 PA0]
    · isplitl [CA0]
      · iexact CA0
      iexact PA0
    isplitl [CA1 PA1]
    · isplitl [CA1]
      · iexact CA1
      iexact PA1
    isplitl [CA2 PA2]
    · isplitl [CA2]
      · iexact CA2
      iexact PA2
    isplitl [CA3]
    · iexact CA3
    iexact PA3
  isplitl [CB0 PB0 CB1 PB1 CB2 PB2 CB3 PB3]
  · isplitl [CB0 PB0]
    · isplitl [CB0]
      · iexact CB0
      iexact PB0
    isplitl [CB1 PB1]
    · isplitl [CB1]
      · iexact CB1
      iexact PB1
    isplitl [CB2 PB2]
    · isplitl [CB2]
      · iexact CB2
      iexact PB2
    isplitl [CB3]
    · iexact CB3
    iexact PB3
  isplitl [HL]
  · iexact HL
  isplitl [Hb0]
  · isplitl [Hb0]
    · iexact Hb0
    iapply (first_bar (F := F) (frm d c)); iexact HR
  isplitl [Hb1]
  · iexact Hb1
  iexact HX

/-- All a device's body starts with but its debts. -/
def bodyIn0 (c : Dev nD) : sProp 𝕄 :=
  iprop(wTools m c ∗ rTools c ∗ xTools m c ∗ hasAny c vC ∗ outAny c ∗ ringIn c true ∗ ringIn c false
    ∗ awaited c 0 1 ∗ cred (tallyAt (barCell c) 5 2))
theorem bodyIn_of (c : Dev nD) : iprop(bodyIn0 m c ∗ owing c (dues c)) ⊢ bodyIn m c := by
  unfold bodyIn0 bodyIn
  iintro ⟨⟨H1, H2, H3, H4, H5, H6, H7, H8, H9⟩, HO⟩
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  iexact HO

/-- The invariant before the body, and after it. -/
def Φ₀ (c : Dev nD) : sProp 𝕄 := iprop(∃ K, invs m K ∗ levAts Lv lv ∗ bodyIn0 m c)
/-- What a device keeps of the launch to the end: the barrier semaphore at zero, `x`, `w` and the result. -/
def kept (c : Dev nD) : sProp 𝕄 :=
  iprop(freeZero c ∗ xAll m c ∗ wAll m c ∗ ∃ f, ⌜OutIs m c f⌝ ∗ ((c : Thread nD τ).loc main_v1_0) ↦{fullShare} f)
def Φ₁ (c : Dev nD) : sProp 𝕄 := iprop(kept m c ∗ ownZero c ∗ Pipeline.scopedRest cfg0.spec c)

/-! ## The end of the body -/

theorem ring_end (c : Dev nD) (d : Bool) : (ringOut c d : sProp 𝕄) ⊢ iprop(slots c d ∗ ringEnd c d ∗ hasAny c (xT d)) := by
  unfold ringOut slotFree arriveds arrived room slots ringEnd four
  iintro ⟨⟨⟨S0, PS0, -⟩, ⟨S1, PS1, -⟩, ⟨S2, PS2, -⟩⟩, ⟨⟨⟨-, -⟩, PA0, -⟩, ⟨⟨-, -⟩, PA1, -⟩, ⟨⟨-, -⟩, PA2, -⟩, ⟨⟨-, -⟩, PA3, -⟩⟩, ⟨⟨⟨-, -⟩, PB0, -⟩, ⟨⟨-, -⟩, PB1, -⟩, ⟨⟨-, -⟩, PB2, -⟩, ⟨⟨-, -⟩, PB3, -⟩⟩, HX⟩
  isplitl [S0 S1 S2]
  · isplitl [S0]
    · iexact S0
    isplitl [S1]
    · iexact S1
    iexact S2
  isplitl [PS0 PS1 PS2 PA0 PA1 PA2 PA3 PB0 PB1 PB2 PB3]
  · isplitl [PS0 PS1 PS2]
    · isplitl [PS0]
      · iexact PS0
      isplitl [PS1]
      · iexact PS1
      iexact PS2
    isplitl [PA0 PA1 PA2 PA3]
    · isplitl [PA0]
      · iexact PA0
      isplitl [PA1]
      · iexact PA1
      isplitl [PA2]
      · iexact PA2
      iexact PA3
    isplitl [PB0]
    · iexact PB0
    isplitl [PB1]
    · iexact PB1
    isplitl [PB2]
    · iexact PB2
    iexact PB3
  iexact HX

theorem rest_of (c : Dev nD) : iprop(hasAny c (xT true) ∗ hasAny c (xT false) ∗ hasAny c wT ∗ slots c true ∗ slots c false ∗ hasAny c vB ∗ hasAny c vC)
    ⊢ (Pipeline.scopedRest cfg0.spec c : sProp 𝕄) := by
  rw [scopedRest0_eq]
  exact BI.Laws.sep_mono (any_elim c (xT true) (xT_whole_set true)) <| BI.Laws.sep_mono (any_elim c (xT false) (xT_whole_set false)) <|
    BI.Laws.sep_mono (any_elim c wT (Memref.isWhole_whole _).set_eq_univ) <|
    BI.Laws.sep_mono (send_glue c true) <| BI.Laws.sep_mono (send_glue c false) <|
    BI.Laws.sep_mono (any_elim c vB (Memref.isWhole_whole _).set_eq_univ) (any_elim c vC (Memref.isWhole_whole _).set_eq_univ)

theorem rest_to (c : Dev nD) : (Pipeline.scopedRest cfg0.spec c : sProp 𝕄)
    ⊢ iprop(hasAny c (xT true) ∗ hasAny c (xT false) ∗ hasAny c wT ∗ slots c true ∗ slots c false ∗ hasAny c vB ∗ hasAny c vC) := by
  rw [scopedRest0_eq]
  iintro ⟨⟨%f0, H0⟩, ⟨%f1, H1⟩, ⟨%f2, H2⟩, ⟨%f3, H3⟩, ⟨%f4, H4⟩, ⟨%f5, H5⟩, %f6, H6⟩
  isplitl [H0]; · iapply (any_intro c (xT true) (xT_whole_set true) f0); iexact H0
  isplitl [H1]; · iapply (any_intro c (xT false) (xT_whole_set false) f1); iexact H1
  isplitl [H2]; · iapply (any_intro c wT (Memref.isWhole_whole _).set_eq_univ f2); iexact H2
  isplitl [H3]; · iapply (send_cut c true f3); iexact H3
  isplitl [H4]; · iapply (send_cut c false f4); iexact H4
  isplitl [H5]; · iapply (any_intro c vB (Memref.isWhole_whole _).set_eq_univ f5); iexact H5
  iapply (any_intro c vC (Memref.isWhole_whole _).set_eq_univ f6); iexact H6

set_option maxHeartbeats 4000000 in
theorem body_close (c : Dev nD) : iprop(invs m K ∗ bodyOut m c) ⊢ iprop(|={Set.univ}=> (Φ₁ m c ∗ owing c [])) := by
  unfold bodyOut wTools rTools xTools
  iintro ⟨#HI, ⟨Hw, Hwd, HwT⟩, ⟨Hrd, HvB⟩, ⟨Hx, Hxd⟩, HvC, Hout, HT, HF, HB, HO⟩
  ihave HT := (ring_end (F := F) c true) $$ HT
  icases HT with ⟨ST, ET, XT⟩
  ihave HF := (ring_end (F := F) c false) $$ HF
  icases HF with ⟨SF, EF, XF⟩
  imod (close_ring m K c true) $$ [ET] with ET
  · isplitr; · iexact HI
    iexact ET
  imod (close_ring m K c false) $$ [EF] with EF
  · isplitr; · iexact HI
    iexact EF
  imod (close_bar m K c) $$ [HB] with HB
  · isplitr; · iexact HI
    iexact HB
  imodintro
  unfold Φ₁ kept
  rw [freeZero_eq]
  isplitr [HO]
  · isplitl [HB Hx Hw Hout]
    · isplitl [HB]; · iexact HB
      isplitl [Hx]; · iexact Hx
      isplitl [Hw]; · iexact Hw
      iapply (out_glue m c); iexact Hout
    isplitl [ET EF Hxd Hwd Hrd]
    · iapply (zero_in (F := F) c)
      isplitl [ET EF]
      · isplitl [ET] <;> iassumption
      isplitl [Hxd]; · iexact Hxd
      isplitl [Hwd] <;> iassumption
    iapply (rest_of (F := F) c)
    isplitl [XT]
    · iexact XT
    isplitl [XF]
    · iexact XF
    isplitl [HwT]
    · iexact HwT
    isplitl [ST]
    · iexact ST
    isplitl [SF]
    · iexact SF
    isplitl [HvB]
    · iexact HvB
    iexact HvC
  iexact HO

set_option maxHeartbeats 1000000 in
/-- The body, from the invariant before it to the one after it. -/
theorem body_run (c : Dev nD) (Q : PUnit → sProp 𝕄) :
    Φ₀ m c ⊢ iprop(owing c (dues c) -∗ ((Φ₁ m c ∗ owing c []) -∗ Q ⟨⟩) -∗ run c (steps F) Q) := by
  unfold Φ₀
  iintro ⟨%K, #HI, #Hlev, Hb⟩ HO Hk
  iapply (wp_fupd _ _ _ (steps F) Q)
  ihave Hin := (bodyIn_of m c) $$ [Hb HO]
  · isplitl [Hb] <;> iassumption
  iapply (steps_ok m K c (fun a => iprop(|={Set.univ}=> Q a))) $$ HI Hlev Hin
  iintro H
  imod (body_close m K c) $$ [H] with H
  · isplitr; · iexact HI
    iexact H
  imodintro
  iapply Hk; iexact H

/-! ## The launch's data -/

def O₀ (c : Dev nD) : CellTallies nD τ sig ℕ := tallyL (dues c)

def dats (_ : Fin 1) (c : Dev nD) : Dat τ (Elt F) ℕ ℕ UU ℕ cfg0 c where
  A w := (s₀ m ρ).mem ((cfg0.win w).arr.view.loc (c : Thread nD τ))
  after w _ := w.elim0
  Φ t := match t with | ⟨0, _⟩ => Φ₀ m c | ⟨_ + 1, _⟩ => Φ₁ m c
  q _ := fullShare
  owed t := match t with | ⟨0, _⟩ => O₀ c | ⟨_ + 1, _⟩ => 0

theorem no_windows (Φ : Fin cfg0.W → sProp 𝕄) : (bigSep Finset.univ Φ : sProp 𝕄) = iprop(emp) := by
  show bigSep (Finset.univ : Finset (Fin 0)) Φ = _
  rw [Finset.univ_eq_empty, BI.bigSep_empty]; rfl

set_option maxRecDepth 8000 in
theorem body_obligation (c : Dev nD) : BodyObligation (dats (F := F) m ρ 0 c) (defs₀ (F := F)) 𝒱₀ 0 Set.univ := fun t => by
  rw [fin_N0 t, no_windows, no_windows]
  have h0 : (dats (F := F) m ρ 0 c).Φ t0_0.castSucc = Φ₀ m c := rfl
  have h1 : (dats (F := F) m ρ 0 c).Φ t0_0.succ = Φ₁ m c := rfl
  have o0 : (dats (F := F) m ρ 0 c).owed t0_0.castSucc = tallyL (dues c) := rfl
  have o1 : (dats (F := F) m ρ 0 c).owed t0_0.succ = tallyL [] := rfl
  unfold Dat.owesAt Pipeline.owesWithin
  rw [h0, h1, o0, o1]
  have hb : (defs₀ .tc cfg0.body (cfg0.bodyArgs t0_0 (cfg0.slots t0_0))) = steps F := body_eq t0_0
  rw [hb]
  iintro ⟨HΦ, ⟨%W, %hW, HO⟩, -⟩
  iapply (body_run m c _) $$ HΦ [HO]
  · unfold owing; iexists W; iexact HO
  iintro ⟨H1, HO⟩
  unfold owing
  icases HO with ⟨%W', HO⟩
  isplitl [H1]; · iexact H1
  isplitl [HO]
  · iexists W'; isplitr
    · ipureintro; exact fun _ _ => Or.inl trivial
    iexact HO
  iempintro

theorem share_eq (c : Dev nD) (w : Fin cfg0.W) : (dats m ρ 0 c).share w = fullShare := w.elim0

/-! ## The ghost state of the rings -/

def u₀ : UU :=
  (initOf (Pipeline.cells cfgs cellOf_inj) (Pipeline.launchToks cfgs cellOf_inj), (initOf ringCells ringToks, 1))

/-- The places of a device at its cells, all at their first round. -/
def places (c : Dev nD) : sProp 𝕄 := bigSep Finset.univ fun k : Fin 23 => place (kcell (c, k))
def firstsOf (c : Dev nD) : sProp 𝕄 := bigSep Finset.univ fun k : Fin 23 => reached ER (kcell (c, k)) 0
/-- What the launch deals a device. -/
def G (c : Dev nD) : sProp 𝕄 :=
  iprop((bigSep Finset.univ fun k : Fin 23 => roundState ER (ringRd m) (kcell (c, k)) 0) ∗ places c ∗ firstsOf c ∗ ownToks c true ∗ ownToks c false)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 23 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => iprop(ownToks c true ∗ ownToks c false) := by
    unfold ringToks; rw [bigSep_map, bigSep_univ_prod]
    refine bigSep_mono fun c _ => ?_
    rw [bigSep_univ_prod, bigSep_univ_eq_bigSepL [true, false] (by decide) (by decide), bigSepL_cons_cons, bigSepL_singleton]
    exact BI.Laws.sep_mono (toks_own c true) (toks_own c false)
  have hG : (bigSep Finset.univ (G m) : sProp 𝕄) = iprop((bigSep Finset.univ fun c : Dev nD => bigSep Finset.univ fun k : Fin 23 => roundState ER (ringRd m) (kcell (c, k)) 0)
      ∗ (bigSep Finset.univ fun c : Dev nD => bigSep Finset.univ fun k : Fin 23 => atPos ER (kcell (c, k)) 0 ∅ 0)
      ∗ (bigSep Finset.univ fun c : Dev nD => bigSep Finset.univ fun k : Fin 23 => reached ER (kcell (c, k)) 0)
      ∗ bigSep Finset.univ fun c : Dev nD => iprop(ownToks c true ∗ ownToks c false)) := by
    rw [← bigSep_sep', ← bigSep_sep', ← bigSep_sep']; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := hT $$ Htok
  iapply (Entails.of_eq hG.symm)
  isplitl [Hst']; · iexact Hst'
  isplitl [Hat']; · iexact Hat'
  isplitl [Hr']; · iexact Hr'
  iexact Htok'

/-- The semaphores left to a device: those of its own copies. -/
def copySems (c : Dev nD) : sProp 𝕄 := iprop(idle c xD ∗ idle c wD ∗ idle c rD)
/-- A device's own share, and what it needs of all. -/
def mine (c : Dev nD) : sProp 𝕄 := iprop(copySems c ∗ places c ∗ payToks c true ∗ payToks c false)
def G' (c : Dev nD) : sProp 𝕄 := iprop(∃ K, (invs m K ∗ firsts) ∗ mine c)

theorem core_alloc (c : Dev nD) :
    iprop(ownZero c ∗ freeZero c ∗ G m c)
      ⊢ |={Set.univ}=> iprop((bigSep Finset.univ fun k => iprop(∃ κ : ℕ, cellInv ER (ringRd m) κ (kcell (c, k)))) ∗ firstsOf c
          ∗ copySems c ∗ places c ∗ ownToks c true ∗ ownToks c false) := by
  unfold G
  iintro ⟨Hos, Hus, Hst, Hpl, Hre, Htok⟩
  ihave Hz := (zero_out (F := F) c) $$ Hos
  icases Hz with ⟨⟨HT, HF⟩, Hcp⟩
  ihave HB := (Entails.of_eq (freeZero_eq (F := F) c)) $$ Hus
  ihave Hv := (cells_in (F := F) zero c) $$ [HT HF HB]
  · isplitl [HT]; · iexact HT
    isplitl [HF] <;> iassumption
  imod (show iprop((bigSep Finset.univ fun k : Fin 23 => zero (kcell (c, k))) ∗ bigSep Finset.univ fun k : Fin 23 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hre]; · iexact Hre
  isplitl [Hcp]; · unfold copySems; iexact Hcp
  isplitl [Hpl] <;> iassumption

theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']; exact bigSep_mono h

theorem regroup :
    (bigSep Finset.univ fun c : Dev nD => iprop((bigSep Finset.univ fun k => iprop(∃ κ : ℕ, cellInv ER (ringRd m) κ (kcell (c, k)))) ∗ firstsOf c
          ∗ copySems c ∗ places c ∗ ownToks c true ∗ ownToks c false) : sProp 𝕄)
      ⊢ bigSep Finset.univ (G' m) := by
  have hf : (bigSep Finset.univ fun c : Dev nD => (firstsOf c : sProp 𝕄)) = firsts := by
    unfold firstsOf firsts; rw [← bigSep_univ_prod (fun ck : Dev nD × Fin 23 => (reached ER (kcell ck) 0 : sProp 𝕄))]
  rw [bigSep_sep', bigSep_sep', bigSep_sep', bigSep_sep', hf,
    ← bigSep_univ_prod (fun ck : Dev nD × Fin 23 => iprop(∃ κ : ℕ, cellInv ER (ringRd m) κ (kcell ck)))]
  have hm : (bigSep Finset.univ mine : sProp 𝕄) = iprop(bigSep Finset.univ copySems ∗ bigSep Finset.univ places
      ∗ bigSep Finset.univ fun c : Dev nD => iprop(payToks c true ∗ payToks c false)) := by
    rw [← bigSep_sep', ← bigSep_sep']; rfl
  iintro ⟨HI, #HR, Hcp, Hpl, Htok⟩
  ihave HK := (BI.bigSep_exists_pi Finset.univ (fun (ck : Dev nD × Fin 23) (κ : ℕ) => (cellInv ER (ringRd m) κ (kcell ck) : sProp 𝕄))) $$ HI
  icases HK with ⟨%K, #HI⟩
  ihave Htk := (toks_around (F := F)) $$ Htok
  iapply (with_all (R := iprop(invs m K ∗ firsts)) (Φ := mine) fun c _ => show _ ⊢ G' m c from by
    unfold G'; iintro H; iexists K; iexact H)
  isplitr
  · isplitr
    · unfold invs; iexact HI
    · iexact HR
  · iapply (Entails.of_eq hm.symm)
    isplitl [Hcp]; · iexact Hcp
    isplitl [Hpl] <;> iassumption

theorem glob : (bigSep Finset.univ fun c => iprop(ownZero c ∗ freeZero c ∗ G m c) : sProp 𝕄)
    ⊢ |={Set.univ}=> bigSep Finset.univ (G' m) :=
  ((bigSep_mono fun c _ => core_alloc m c).trans (bigSep_fupd _ _)).trans (BI.fupd_mono (regroup m))

/-! ## Into the body and out of it -/

/-- What a device takes into the launch of its kernel. -/
def start (c : Dev nD) : sProp 𝕄 :=
  iprop((∃ K, (invs m K ∗ firsts) ∗ mine c) ∗ levAts Lv lv ∗ creds c ∗ (xAll m c ∗ wAll m c ∗ outAny c ∗ tiles c true ∗ tiles c false))

theorem xAll_eq (c : Dev nD) : (xAll m c : sProp 𝕄) = (((c : Thread nD τ).loc main_arg0) ↦{fullShare} m ((c : Thread nD τ).loc main_arg0)) := by
  unfold xAll; rw [(Memref.isWhole_whole main_arg0).set_eq_univ]; rfl
theorem wAll_eq (c : Dev nD) : (wAll m c : sProp 𝕄) = (((c : Thread nD τ).loc main_arg1) ↦{fullShare} m ((c : Thread nD τ).loc main_arg1)) := by
  unfold wAll; rw [(Memref.isWhole_whole main_arg1).set_eq_univ]; rfl

theorem start_intro (c : Dev nD) :
    iprop(Pipeline.unscopedRestP Pipeline.Prefetch.none cfg0.spec c (fun b => m ((c : Thread nD τ).loc b)) ∗ levAts Lv lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Hw, Ho, Hr1, Hr2⟩, Hlev, Hcr, -, HG⟩
  unfold O₀
  ihave Hc := (launch_creds (F := F) c) $$ Hcr
  imodintro
  unfold start G'
  rw [xAll_eq, wAll_eq]
  isplitl
  · isplitl [HG]; · iexact HG
    isplitl [Hlev]; · iexact Hlev
    isplitl [Hc]; · iexact Hc
    isplitl [Hx]; · iexact Hx
    isplitl [Hw]; · iexact Hw
    isplitl [Ho]; · iapply (out_cut (F := F) c _); iexact Ho
    isplitl [Hr1]; · iapply (recv_cut (F := F) c true _); iexact Hr1
    iapply (recv_cut (F := F) c false _); iexact Hr2
  · iempintro

set_option maxHeartbeats 4000000 in
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold start Φ₀ mine copySems places creds
  iintro ⟨⟨⟨%K, ⟨#HI, #HR⟩, ⟨Hxd, Hwd, Hrd⟩, Hpl, TT, TF⟩, #Hlev, ⟨⟨Hb1, Hb5⟩, CT, CF⟩, Hx, Hw, Ho, RT, RF⟩, -, Hs⟩
  ihave Hs := (rest_to (F := F) c) $$ Hs
  icases Hs with ⟨XT, XF, HwT, ST, SF, HvB, HvC⟩
  ihave Hpl := (cells_out (F := F) place c) $$ Hpl
  icases Hpl with ⟨PT, PF, PB⟩
  ihave HT := (ring_start (F := F) c true) $$ HR [ST RT PT TT CT XT]
  · unfold ringCreds
    isplitl [ST]
    · iexact ST
    isplitl [RT]
    · iexact RT
    isplitl [PT]
    · iexact PT
    isplitl [TT]
    · iexact TT
    isplitl [CT]
    · iexact CT
    iexact XT
  ihave HF := (ring_start (F := F) c false) $$ HR [SF RF PF TF CF XF]
  · unfold ringCreds
    isplitl [SF]
    · iexact SF
    isplitl [RF]
    · iexact RF
    isplitl [PF]
    · iexact PF
    isplitl [TF]
    · iexact TF
    isplitl [CF]
    · iexact CF
    iexact XF
  iexists K
  isplitr; · iexact HI
  isplitr; · iexact Hlev
  unfold bodyIn0 wTools rTools xTools awaited place
  isplitl [Hw Hwd HwT]
  · isplitl [Hw]
    · iexact Hw
    isplitl [Hwd]
    · iexact Hwd
    iexact HwT
  isplitl [Hrd HvB]
  · isplitl [Hrd]
    · iexact Hrd
    iexact HvB
  isplitl [Hx Hxd]
  · isplitl [Hx]
    · iexact Hx
    iexact Hxd
  isplitl [HvC]
  · iexact HvC
  isplitl [Ho]
  · iexact Ho
  isplitl [HT]
  · iexact HT
  isplitl [HF]
  · iexact HF
  isplitl [Hb1 PB]
  · isplitl [Hb1]
    · iexact Hb1
    iexact PB
  iexact Hb5

theorem phi1_exit (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = Φ₁ m c from rfl]
  unfold Φ₁; exact BI.Entails.refl _

theorem waits (c : Dev nD) : (levAts Lv lv : sProp 𝕄) ⊢ Pipeline.cellsWaits cfgs (dats m ρ) 0 0 c :=
  Pipeline.cellsWaits_intro cfgs (dats m ρ) 0 0 c fun w s t => w.elim0

/-! ## The run -/

/-- What is known of a device's memory at the end. -/
def Ends (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ OutIs m c (s.mem ((c : Thread nD τ).loc main_v1_0))

theorem kept_read (c : Dev nD) (s' : Phys nD τ sig (Elt F)) :
    iprop(kept m c ∗ emp ∗ SI s') ⊢ |={Set.univ}=> (iprop(⌜Ends m c s'.mem ∧ ∀ sm : SemLoc sig, sm.isScoped .tc = false → s'.mem.sem ((c.tc : Thread nD τ), sm) = 0⌝ ∗ SI s') : sProp 𝕄) := by
  unfold kept
  rw [xAll_eq, wAll_eq]
  iintro ⟨⟨Hz, Hx, Hw, %f, %hf, Ho⟩, -, HSI⟩
  icombine HSI Hx gives %hx
  icombine HSI Hw gives %hw
  icombine HSI Ho gives %ho
  imod (Pipeline.unscopedSems0_read (X := freeZero c) (c := c) fupd_intro s') $$ [Hz HSI] with ⟨%hz, HSI⟩
  · isplitl [Hz] <;> iassumption
  imodintro
  isplitr
  · ipureintro
    refine ⟨⟨Buf.eq_of_forall_mem_univ hx, Buf.eq_of_forall_mem_univ hw, ?_⟩, hz⟩
    have e := Buf.eq_of_forall_mem_univ ho
    rw [e]; exact hf
  iexact HSI

set_option maxRecDepth 8000 in
theorem run_main : θ_run defs (onTc (τ := τ) (main (F := F))) (s₀ m ρ) (fun r => (∀ c, Ends m c r.2) ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := fun c => (body_obligation m ρ c).loose) (hne := fun w => w.elim0) (harr := arr_whole0) (hstage := stage_whole0) (hshare := share_eq m ρ)
    (hdistinct := winFacts0.arr_inj)
    (O₀ := O₀) (howed₀ := fun _ => rfl) (howedN := fun _ => rfl)
    (L := Lv) (lv := lv) (hL := SiteBlocks.hL 7) (hwaits := waits m ρ)
    (G := G m) (G' := G' m) (u₀ := u₀)
    (hu₀ := by
      unfold u₀
      iintro Hu
      ihave H := (ownU_pair _ _) $$ Hu
      icases H with ⟨HP, HX⟩
      imod (fund_ring m) $$ [HX] with HG
      · iexact HX
      imodintro
      isplitl [HP] <;> iassumption)
    (hglob := glob m)
    (hA := fun _ _ => rfl) (hpf := fun _ k => k.elim0)
    (X := start m) (Y := kept m) (Z := fun _ => iprop(emp))
    (hX := start_intro m ρ) (hin := phi0_intro m ρ) (hout := phi1_exit m ρ)
    (QY := fun c s => Ends m c s ∧ ∀ sm : SemLoc sig, sm.isScoped .tc = false → s.sem ((c.tc : Thread nD τ), sm) = 0)
    (hY := kept_read m)
    (hQ := fun _ h hs => ⟨fun c => (h c).2.2.1, sem_eq_zero hs fun c => (h c).2.2.2⟩)

end Cert.RingProof
end
-- ==== Proof.Frames.lean ====
/-
# The frames

Every program ends with its arguments unchanged and every semaphore at zero. The kernel's two readings, over float words
and over the extended reals, have the same text, so both frames are the one run of Run.lean, at the one and at the other.
-/
module

public import proofs.«01_k».proof.Proof.Run
public import proofs.«01_k».proof.Proof.Gen.Kernel
public import proofs.«01_k».proof.Proof.Gen.ReferenceIdeal.Run
public import proofs.«01_k».proof.Proof.Gen.UnclippedIdeal.Run
public import proofs.«01_k».proof.Proof.Gen.Pre_partials_small_KernelIdeal
public import proofs.«01_k».proof.Proof.Gen.Pre_partials_small_ReferenceIdeal
public import proofs.«01_k».proof.Defs
public import Idealize.ShloMosaic.Lib.Quiescent

@[expose] public section

noncomputable section

namespace Cert.RingProof

open Idealize.ShloMosaic Idealize.SL.Sem

/-- The kernel over float words. -/
theorem frame_kernel : Cert.quiescent_Kernel := fun m ρ _ =>
  (θ_run Cert.KernelIdeal.defs _ _).mono (fun _ h => ⟨fun c => ⟨(h.1 c).1, (h.1 c).2.1⟩, h.2⟩) (run_main (F := Bits) m ρ)

/-- The kernel over the extended reals. -/
theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference without its clip. -/
theorem frame_unclipped : Cert.quiescent_UnclippedIdeal := fun m ρ _ =>
  (θ_run Cert.UnclippedIdeal.defs _ _).mono (fun r h => ⟨fun c => (h c).2, sem_eq_zero_of_no_sems (by decide) r.2⟩)
    (Cert.UnclippedIdeal.Value.run (F := Ideal) m ρ)

end Cert.RingProof

end
-- ==== Proof.Equation.lean ====
/-
# The equation

Each device's result is its block of the reference's: for the reference as it is under the precondition, and for the
reference without its clip from any inputs.
-/
module

public import proofs.«01_k».proof.Proof.Values
public import proofs.«01_k».proof.Proof.Frames

@[expose] public section

noncomputable section

namespace Cert.RingProof

open Cert.KernelIdeal
open Idealize.ShloMosaic
open Idealize.ShloMosaic.TcCoe
open Idealize.SL.Sem

variable {m : (ℓ : Loc nD τ sig) → Buf (Elt Ideal) ℓ} {X : SX.Idx → EReal} {W : SW.Idx → EReal}

/-- The activation of an element of the whole product. -/
def act (X : SX.Idx → EReal) (W : SW.Idx → EReal) (r : Fin 4096) (l : Fin 8192) : EReal :=
  whole X W r l * Ideal.logistic (whole X W r l)

/-- Every column of the result lies in one of its tiles. -/
theorem at8_onto (l : Fin 8192) : ∃ j b, at8 j b = l :=
  ⟨⟨l.val / 1024, by have := l.isLt; omega⟩, ⟨l.val % 1024, Nat.mod_lt _ (by decide)⟩, Fin.ext (by simp only [at8]; omega)⟩

/-- What a device's result buffer ends holding, at an index. -/
theorem out_at (h : Holds m X W) (c : Dev nD) (f : Buf (Elt Ideal) ((c : Thread nD τ).loc main_v1_0)) (hf : OutIs m c f)
    (a : Fin 1024) (l : Fin 8192) : f (ix2 a l) = act X W (at4 c a) l := by
  obtain ⟨j, b, rfl⟩ := at8_onto l
  obtain ⟨⟨d, t⟩, rfl⟩ := col_onto j
  have e := congrFun (hf (d, t)) (ix2 a b)
  rw [outTile_at h, ← share_sum] at e
  refine Eq.trans (congrArg f (funext fun k => Fin.ext ?_)) e
  match k with
  | ⟨0, _⟩ =>
    show a.val = 0 + 1 * a.val
    omega
  | ⟨1, _⟩ =>
    show (col d t).val * 1024 + b.val = 1024 * (col d t).val + 1 * b.val
    omega

/-- A device's result is its block of any array that holds the activation of the whole product. -/
theorem out_block (h : Holds m X W) (v : (⟨2, ![4096, 8192]⟩ : Shape).Idx → EReal) (hv : ∀ r l, v (ix2 r l) = act X W r l)
    (c : Dev nD) (f : Buf (Elt Ideal) ((c : Thread nD τ).loc main_v1_0)) (hf : OutIs m c f) :
    f = Layout.block ⟨2, ![1024, 8192]⟩ ⟨2, ![4096, 8192]⟩ 0 4 c v := by
  funext i
  obtain ⟨a, l, rfl⟩ : ∃ (a : Fin 1024) (l : Fin 8192), i = ix2 a l := ⟨i 0, i 1, eq_ix2 i⟩
  rw [out_at h c f hf, ← hv, Layout.block_apply]
  refine congrArg v (funext fun d => Fin.ext ?_)
  match d with
  | ⟨0, _⟩ => exact Eq.symm ((Layout.idx_rows_val _ c _).1.trans rfl)
  | ⟨1, _⟩ => exact Eq.symm ((Layout.idx_rows_val _ c _).2.trans rfl)

/-- The reference without its clip computes the activation. -/
theorem unclipped_act (r : Fin 4096) (l : Fin 8192) : unclippedTerm X W (ix2 r l) = act X W r l :=
  (unclippedTerm_at X W r l).trans (div_silu _)

/-- Where every device's partial product is bounded by 15, so does the reference as it is. -/
theorem clipped_act (h : Holds m X W)
    (hp : ∀ (c : Dev nD) (r : Fin 4096) (l : Fin 8192), max (share X W r l c) (-share X W r l c) ≤ ((15 : ℝ) : EReal))
    (r : Fin 4096) (l : Fin 8192) : clippedTerm X W (ix2 r l) = act X W r l := by
  have hb := bound_four (hp 0 r l) (hp 1 r l) (hp 2 r l) (hp 3 r l)
  have hw : whole X W r l = share X W r l 0 + share X W r l 1 + share X W r l 2 + share X W r l 3 :=
    (share_sum X W r l).trans (Fin.sum_univ_four _)
  rw [← hw] at hb
  rw [clippedTerm_at, clip_of_mem hb.1 hb.2, div_silu, act]

/-- The kernel against the reference without its clip. -/
theorem algebraic_unclipped : Cert.algebraic_KernelIdeal_UnclippedIdeal := fun m ρ m' ρ' _ h =>
  ⟨unclippedTerm (m' (((0 : Dev Cert.UnclippedIdeal.nD).tc : Thread Cert.UnclippedIdeal.nD Cert.UnclippedIdeal.τ).loc Cert.UnclippedIdeal.main_arg0))
      (m' (((0 : Dev Cert.UnclippedIdeal.nD).tc : Thread Cert.UnclippedIdeal.nD Cert.UnclippedIdeal.τ).loc Cert.UnclippedIdeal.main_arg1)),
    (θ_run Cert.KernelIdeal.defs _ _).mono
      (fun _ e c => ⟨out_block h _ unclipped_act c _ (e.1 c).2.2, (e.1 c).1, (e.1 c).2.1⟩) (run_main (F := Ideal) m ρ),
    (θ_run Cert.UnclippedIdeal.defs _ _).mono (fun _ e => ⟨(e 0).1, (e 0).2⟩) (Cert.UnclippedIdeal.Value.run (F := Ideal) m' ρ')⟩

/-- The kernel against the reference, under the precondition. -/
theorem algebraic_reference : Cert.algebraic_KernelIdeal_ReferenceIdeal_pre_partials_small_KernelIdeal := fun m ρ m' ρ' hp h =>
  ⟨clippedTerm (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ e c => ⟨out_block h _ (clipped_act h fun c r l => by rw [share_own h]; exact pre_at _ _ (hp c) r l) c _ (e.1 c).2.2,
        (e.1 c).1, (e.1 c).2.1⟩) (run_main (F := Ideal) m ρ),
    (θ_run Cert.ReferenceIdeal.defs _ _).mono (fun _ e => ⟨(e 0).1, (e 0).2⟩) (Cert.ReferenceIdeal.Value.run (F := Ideal) m' ρ')⟩

end Cert.RingProof

end
-- ==== Proof.lean ====
/-
# The claims, proved

The frames of the kernel at both readings and of both references, and the kernel's result as its block of each
reference's: without a precondition where the reference leaves the clip out, and under the bound on the partial products
where it keeps it.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.UnclippedIdeal
public import proofs.«01_k».proof.Proof.Gen.UnclippedIdeal.Run
public import proofs.«01_k».proof.Proof.Gen.Pre_partials_small_KernelIdeal
public import proofs.«01_k».proof.Proof.Gen.Pre_partials_small_ReferenceIdeal
public import proofs.«01_k».proof.Proof.Equation

@[expose] public section

noncomputable section

namespace Cert.Proof

open Idealize.ShloMosaic Idealize.SL.Sem Cert.RingProof

theorem claim : Cert.Claim :=
  ⟨Cert.Kernel.Gen.facts, Cert.KernelIdeal.Gen.facts, Cert.ReferenceIdeal.Gen.facts, Cert.UnclippedIdeal.Gen.facts,
    Cert.Pre_partials_small_KernelIdeal.Gen.facts, Cert.Pre_partials_small_ReferenceIdeal.Gen.facts,
    frame_kernel, frame_ideal, fun m ρ _ => frame_ideal m ρ trivial, frame_reference, fun m ρ _ => frame_reference m ρ trivial,
    frame_unclipped, trivial, algebraic_reference, algebraic_unclipped⟩

end Cert.Proof

end
